-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_scores_real [hPre_attention_scores_real : Cert.Pre_attention_scores_real.Facts] (m : (ℓ : Loc Cert.KernelIdeal.nD Cert.KernelIdeal.τ Cert.KernelIdeal.sig) → Buf (Elt Ideal) ℓ) : Prop :=
  ∀ c : Dev Cert.KernelIdeal.nD,
    (Cert.Pre_attention_scores_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_attention_scores_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_attention_scores_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_attention_scores_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_scores_real [hPre_attention_scores_real : Cert.Pre_attention_scores_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_scores_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_attention_scores_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_attention_scores_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_attention_scores_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProjB (m : (ℓ : Loc Cert.InProjB.nD Cert.InProjB.τ Cert.InProjB.sig) → Buf (Elt Bits) ℓ) : Prop :=
  True

def Pre_InProjBIdeal (m : (ℓ : Loc Cert.InProjBIdeal.nD Cert.InProjBIdeal.τ Cert.InProjBIdeal.sig) → Buf (Elt Ideal) ℓ) : Prop :=
  True

def Pre_InProjBRefIdeal (m : (ℓ : Loc Cert.InProjBRefIdeal.nD Cert.InProjBRefIdeal.τ Cert.InProjBRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProjA (m : (ℓ : Loc Cert.InProjA.nD Cert.InProjA.τ Cert.InProjA.sig) → Buf (Elt Bits) ℓ) : Prop :=
  True

def Pre_InProjAIdeal (m : (ℓ : Loc Cert.InProjAIdeal.nD Cert.InProjAIdeal.τ Cert.InProjAIdeal.sig) → Buf (Elt Ideal) ℓ) : Prop :=
  True

def Pre_InProjARefIdeal (m : (ℓ : Loc Cert.InProjARefIdeal.nD Cert.InProjARefIdeal.τ Cert.InProjARefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_attention_scores_real [hKernelIdeal : Cert.KernelIdeal.Facts] [hPre_attention_scores_real : Cert.Pre_attention_scores_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_scores_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_attention_scores_real [hReferenceIdeal : Cert.ReferenceIdeal.Facts] [hPre_attention_scores_real : Cert.Pre_attention_scores_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_scores_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProjB [hInProjB : Cert.InProjB.Facts] : Prop :=
  ∀ (m : (ℓ : Loc Cert.InProjB.nD Cert.InProjB.τ Cert.InProjB.sig) → Buf (Elt Bits) ℓ) (g : Dev Cert.InProjB.nD → PrngReg), Pre_InProjB m →
    θ_run (Cert.InProjB.defs (F := Bits)) (onTc (τ := Cert.InProjB.τ) (Cert.InProjB.main (F := Bits))) ⟨m, fun _ => 0, g⟩ (fun r => (∀ c : Dev Cert.InProjB.nD,
      r.2.mem ((c.tc : Thread Cert.InProjB.nD Cert.InProjB.τ).loc Cert.InProjB.main_arg0) = m ((c.tc : Thread Cert.InProjB.nD Cert.InProjB.τ).loc Cert.InProjB.main_arg0)
      ∧ r.2.mem ((c.tc : Thread Cert.InProjB.nD Cert.InProjB.τ).loc Cert.InProjB.main_arg1) = m ((c.tc : Thread Cert.InProjB.nD Cert.InProjB.τ).loc Cert.InProjB.main_arg1))
      ∧ r.2.sem = fun _ => 0)

def quiescent_InProjBIdeal [hInProjBIdeal : Cert.InProjBIdeal.Facts] : Prop :=
  ∀ (m : (ℓ : Loc Cert.InProjBIdeal.nD Cert.InProjBIdeal.τ Cert.InProjBIdeal.sig) → Buf (Elt Ideal) ℓ) (g : Dev Cert.InProjBIdeal.nD → PrngReg), Pre_InProjBIdeal m →
    θ_run (Cert.InProjBIdeal.defs (F := Ideal)) (onTc (τ := Cert.InProjBIdeal.τ) (Cert.InProjBIdeal.main (F := Ideal))) ⟨m, fun _ => 0, g⟩ (fun r => (∀ c : Dev Cert.InProjBIdeal.nD,
      r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
      ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1))
      ∧ r.2.sem = fun _ => 0)

def quiescent_InProjBRefIdeal [hInProjBRefIdeal : Cert.InProjBRefIdeal.Facts] : Prop :=
  ∀ (m : (ℓ : Loc Cert.InProjBRefIdeal.nD Cert.InProjBRefIdeal.τ Cert.InProjBRefIdeal.sig) → Buf (Elt Ideal) ℓ) (g : Dev Cert.InProjBRefIdeal.nD → PrngReg), Pre_InProjBRefIdeal m →
    θ_run (Cert.InProjBRefIdeal.defs (F := Ideal)) (onTc (τ := Cert.InProjBRefIdeal.τ) (Cert.InProjBRefIdeal.main (F := Ideal))) ⟨m, fun _ => 0, g⟩ (fun r => (∀ c : Dev Cert.InProjBRefIdeal.nD,
      r.2.mem ((c.tc : Thread Cert.InProjBRefIdeal.nD Cert.InProjBRefIdeal.τ).loc Cert.InProjBRefIdeal.main_arg0) = m ((c.tc : Thread Cert.InProjBRefIdeal.nD Cert.InProjBRefIdeal.τ).loc Cert.InProjBRefIdeal.main_arg0)
      ∧ r.2.mem ((c.tc : Thread Cert.InProjBRefIdeal.nD Cert.InProjBRefIdeal.τ).loc Cert.InProjBRefIdeal.main_arg1) = m ((c.tc : Thread Cert.InProjBRefIdeal.nD Cert.InProjBRefIdeal.τ).loc Cert.InProjBRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_InProjA [hInProjA : Cert.InProjA.Facts] : Prop :=
  ∀ (m : (ℓ : Loc Cert.InProjA.nD Cert.InProjA.τ Cert.InProjA.sig) → Buf (Elt Bits) ℓ) (g : Dev Cert.InProjA.nD → PrngReg), Pre_InProjA m →
    θ_run (Cert.InProjA.defs (F := Bits)) (onTc (τ := Cert.InProjA.τ) (Cert.InProjA.main (F := Bits))) ⟨m, fun _ => 0, g⟩ (fun r => (∀ c : Dev Cert.InProjA.nD,
      r.2.mem ((c.tc : Thread Cert.InProjA.nD Cert.InProjA.τ).loc Cert.InProjA.main_arg0) = m ((c.tc : Thread Cert.InProjA.nD Cert.InProjA.τ).loc Cert.InProjA.main_arg0)
      ∧ r.2.mem ((c.tc : Thread Cert.InProjA.nD Cert.InProjA.τ).loc Cert.InProjA.main_arg1) = m ((c.tc : Thread Cert.InProjA.nD Cert.InProjA.τ).loc Cert.InProjA.main_arg1)
      ∧ r.2.mem ((c.tc : Thread Cert.InProjA.nD Cert.InProjA.τ).loc Cert.InProjA.main_arg2) = m ((c.tc : Thread Cert.InProjA.nD Cert.InProjA.τ).loc Cert.InProjA.main_arg2))
      ∧ r.2.sem = fun _ => 0)

def quiescent_InProjAIdeal [hInProjAIdeal : Cert.InProjAIdeal.Facts] : Prop :=
  ∀ (m : (ℓ : Loc Cert.InProjAIdeal.nD Cert.InProjAIdeal.τ Cert.InProjAIdeal.sig) → Buf (Elt Ideal) ℓ) (g : Dev Cert.InProjAIdeal.nD → PrngReg), Pre_InProjAIdeal m →
    θ_run (Cert.InProjAIdeal.defs (F := Ideal)) (onTc (τ := Cert.InProjAIdeal.τ) (Cert.InProjAIdeal.main (F := Ideal))) ⟨m, fun _ => 0, g⟩ (fun r => (∀ c : Dev Cert.InProjAIdeal.nD,
      r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
      ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1)
      ∧ r.2.mem ((c.tc : Thread Cert.InProjAIdeal.nD Cert.InProjAIdeal.τ).loc Cert.InProjAIdeal.main_arg2) = m ((c.tc : Thread Cert.InProjAIdeal.nD Cert.InProjAIdeal.τ).loc Cert.InProjAIdeal.main_arg2))
      ∧ r.2.sem = fun _ => 0)

def quiescent_InProjARefIdeal [hInProjARefIdeal : Cert.InProjARefIdeal.Facts] : Prop :=
  ∀ (m : (ℓ : Loc Cert.InProjARefIdeal.nD Cert.InProjARefIdeal.τ Cert.InProjARefIdeal.sig) → Buf (Elt Ideal) ℓ) (g : Dev Cert.InProjARefIdeal.nD → PrngReg), Pre_InProjARefIdeal m →
    θ_run (Cert.InProjARefIdeal.defs (F := Ideal)) (onTc (τ := Cert.InProjARefIdeal.τ) (Cert.InProjARefIdeal.main (F := Ideal))) ⟨m, fun _ => 0, g⟩ (fun r => (∀ c : Dev Cert.InProjARefIdeal.nD,
      r.2.mem ((c.tc : Thread Cert.InProjARefIdeal.nD Cert.InProjARefIdeal.τ).loc Cert.InProjARefIdeal.main_arg0) = m ((c.tc : Thread Cert.InProjARefIdeal.nD Cert.InProjARefIdeal.τ).loc Cert.InProjARefIdeal.main_arg0)
      ∧ r.2.mem ((c.tc : Thread Cert.InProjARefIdeal.nD Cert.InProjARefIdeal.τ).loc Cert.InProjARefIdeal.main_arg1) = m ((c.tc : Thread Cert.InProjARefIdeal.nD Cert.InProjARefIdeal.τ).loc Cert.InProjARefIdeal.main_arg1)
      ∧ r.2.mem ((c.tc : Thread Cert.InProjARefIdeal.nD Cert.InProjARefIdeal.τ).loc Cert.InProjARefIdeal.main_arg2) = m ((c.tc : Thread Cert.InProjARefIdeal.nD Cert.InProjARefIdeal.τ).loc Cert.InProjARefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def preserves_Kernel_KernelIdeal : Prop :=
  IdealRules.named_const.Statement Cert.KernelIdeal.κ "alibi0" .f32 0xBF3504F3#32 ((-((Real.sqrt 2)⁻¹) : ℝ) : EReal)
  ∧ IdealRules.named_const.Statement Cert.KernelIdeal.κ "alibi2" .f32 0xBEB504F3#32 ((-((Real.sqrt 8)⁻¹) : ℝ) : EReal)
  ∧ IdealRules.named_const.Statement Cert.KernelIdeal.κ "alibi4" .f32 0xBE3504F3#32 ((-((Real.sqrt 32)⁻¹) : ℝ) : EReal)
  ∧ IdealRules.named_const.Statement Cert.KernelIdeal.κ "alibi6" .f32 0xBDB504F3#32 ((-((Real.sqrt 128)⁻¹) : ℝ) : EReal)
  ∧ IdealRules.named_const.Statement Cert.KernelIdeal.κ "alibi8" .f32 0xBD3504F3#32 ((-((Real.sqrt 512)⁻¹) : ℝ) : EReal)
  ∧ IdealRules.named_const.Statement Cert.KernelIdeal.κ "alibi10" .f32 0xBCB504F3#32 ((-((Real.sqrt 2048)⁻¹) : ℝ) : EReal)
  ∧ IdealRules.named_const.Statement Cert.KernelIdeal.κ "alibi12" .f32 0xBC3504F3#32 ((-((Real.sqrt 8192)⁻¹) : ℝ) : EReal)
  ∧ IdealRules.named_const.Statement Cert.KernelIdeal.κ "alibi14" .f32 0xBBB504F3#32 ((-((Real.sqrt 32768)⁻¹) : ℝ) : EReal)
  ∧ IdealRules.named_const.Statement Cert.KernelIdeal.κ "log_gamma0" .f32 0xBD020AEC#32 ((Real.log (31 / 32) : ℝ) : EReal)
  ∧ IdealRules.named_const.Statement Cert.KernelIdeal.κ "log_gamma1" .f32 0xBC8102B3#32 ((Real.log (63 / 64) : ℝ) : EReal)
  ∧ IdealRules.named_const.Statement Cert.KernelIdeal.κ "log_gamma2" .f32 0xBC0080AC#32 ((Real.log (127 / 128) : ℝ) : EReal)
  ∧ IdealRules.named_const.Statement Cert.KernelIdeal.κ "log_gamma3" .f32 0xBB80402B#32 ((Real.log (255 / 256) : ℝ) : EReal)
  ∧ IdealRules.named_const.Statement Cert.KernelIdeal.κ "log_gamma4" .f32 0xBB00200B#32 ((Real.log (511 / 512) : ℝ) : EReal)
  ∧ IdealRules.named_const.Statement Cert.KernelIdeal.κ "log_gamma5" .f32 0xBA801003#32 ((Real.log (1023 / 1024) : ℝ) : EReal)
  ∧ IdealRules.named_const.Statement Cert.KernelIdeal.κ "log_gamma6" .f32 0xBA000801#32 ((Real.log (2047 / 2048) : ℝ) : EReal)
  ∧ IdealRules.named_const.Statement Cert.KernelIdeal.κ "log_gamma7" .f32 0xB9800400#32 ((Real.log (4095 / 4096) : ℝ) : EReal)
  ∧ IdealRules.named_const.Statement Cert.KernelIdeal.κ "gamma0_pow32" .f32 0x3EB95F50#32 ((529144398052420314716929933900838757437386767361 / 1461501637330902918203684832716283019655932542976 : ℝ) : EReal)
  ∧ IdealRules.named_const.Statement Cert.KernelIdeal.κ "gamma1_pow32" .f32 0x3F1AA8FF#32 ((3792255435734639939700427436560372449070499280862066964481 / 6277101735386680763835789423207666416102355444464034512896 : ℝ) : EReal)
  ∧ IdealRules.named_const.Statement Cert.KernelIdeal.κ "gamma2_pow32" .f32 0x3F472D69#32 ((20975825942850835435487946371038619427046538071435595461971578449921 / 26959946667150639794667015087019630673637144422540572481103610249216 : ℝ) : EReal)
  ∧ IdealRules.named_const.Statement Cert.KernelIdeal.κ "gamma3_pow32" .f32 0x3F61DD29#32 ((102161150204658159326162171757797299165741800222807601117528975009918212890625 / 115792089237316195423570985008687907853269984665640564039457584007913129639936 : ℝ) : EReal)
  ∧ IdealRules.named_const.Statement Cert.KernelIdeal.κ "gamma4_pow32" .f32 0x3F70799D#32 ((467163393279595717114768225276800784329100809373754920279961651273278375640467247185921 / 497323236409786642155382248146820840100456150797347717440463976893159497012533375533056 : ℝ) : EReal)
  ∧ IdealRules.named_const.Statement Cert.KernelIdeal.κ "gamma5_pow32" .f32 0x3F781EB3#32 ((2070238013477641369047598116766564085240532940704103852521683969646068506410078128294861668843521 / 2135987035920910082395021706169552114602704522356652769947041607822219725780640550022962086936576 : ℝ) : EReal)
  ∧ IdealRules.named_const.Statement Cert.KernelIdeal.κ "gamma6_pow32" .f32 0x3F7C07B6#32 ((9031730398273850370489964795324860346612272594123138590987237281074062178783633665532752512626558213488641 / 9173994463960286046443283581208347763186259956673124494950355357547691504353939232280074212440502746218496 : ℝ) : EReal)
  ∧ IdealRules.named_const.Statement Cert.KernelIdeal.κ "gamma7_pow32" .f32 0x3F7E01EF#32 ((39095340061194871014807021519465601639154637254407809125193773242775671690011496862934962943219579756259918212890625 / 39402006196394479212279040100143613805079739270465446667948293404245721771497210611414266254884915640806627990306816 : ℝ) : EReal)

def algebraic_KernelIdeal_ReferenceIdeal_pre_attention_scores_real [hKernelIdeal : Cert.KernelIdeal.Facts] [hReferenceIdeal : Cert.ReferenceIdeal.Facts] [hPre_attention_scores_real : Cert.Pre_attention_scores_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_scores_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProjB_InProjBIdeal : Prop :=
  True

def algebraic_InProjBIdeal_InProjBRefIdeal [hInProjBIdeal : Cert.InProjBIdeal.Facts] [hInProjBRefIdeal : Cert.InProjBRefIdeal.Facts] : Prop :=
  ∀ (m : (ℓ : Loc Cert.InProjBIdeal.nD Cert.InProjBIdeal.τ Cert.InProjBIdeal.sig) → Buf (Elt Ideal) ℓ) (g : Dev Cert.InProjBIdeal.nD → PrngReg)
    (m' : (ℓ : Loc Cert.InProjBRefIdeal.nD Cert.InProjBRefIdeal.τ Cert.InProjBRefIdeal.sig) → Buf (Elt Ideal) ℓ) (g' : Dev Cert.InProjBRefIdeal.nD → PrngReg), Pre_InProjBIdeal m →
    (∀ c : Dev Cert.InProjBIdeal.nD,
      m' ((c.tc : Thread Cert.InProjBRefIdeal.nD Cert.InProjBRefIdeal.τ).loc Cert.InProjBRefIdeal.main_arg0) = m ((c.tc : Thread Cert.InProjBIdeal.nD Cert.InProjBIdeal.τ).loc Cert.InProjBIdeal.main_arg0)
      ∧ m' ((c.tc : Thread Cert.InProjBRefIdeal.nD Cert.InProjBRefIdeal.τ).loc Cert.InProjBRefIdeal.main_arg1) = m ((c.tc : Thread Cert.InProjBIdeal.nD Cert.InProjBIdeal.τ).loc Cert.InProjBIdeal.main_arg1)) →
    ∃ (v0 : (c : Dev Cert.InProjBIdeal.nD) → Buf (Elt Ideal) ((c.tc : Thread Cert.InProjBIdeal.nD Cert.InProjBIdeal.τ).loc Cert.InProjBIdeal.main_v0_0)) (v1 : (c : Dev Cert.InProjBIdeal.nD) → Buf (Elt Ideal) ((c.tc : Thread Cert.InProjBIdeal.nD Cert.InProjBIdeal.τ).loc Cert.InProjBIdeal.main_v5)) (v2 : (c : Dev Cert.InProjBIdeal.nD) → Buf (Elt Ideal) ((c.tc : Thread Cert.InProjBIdeal.nD Cert.InProjBIdeal.τ).loc Cert.InProjBIdeal.main_v8)),
      θ_run (Cert.InProjBIdeal.defs (F := Ideal)) (onTc (τ := Cert.InProjBIdeal.τ) (Cert.InProjBIdeal.main (F := Ideal))) ⟨m, fun _ => 0, g⟩ (fun r => ∀ c : Dev Cert.InProjBIdeal.nD,
          r.2.mem ((c.tc : Thread Cert.InProjBIdeal.nD Cert.InProjBIdeal.τ).loc Cert.InProjBIdeal.main_v0_0) = v0 c
          ∧ r.2.mem ((c.tc : Thread Cert.InProjBIdeal.nD Cert.InProjBIdeal.τ).loc Cert.InProjBIdeal.main_v5) = v1 c
          ∧ r.2.mem ((c.tc : Thread Cert.InProjBIdeal.nD Cert.InProjBIdeal.τ).loc Cert.InProjBIdeal.main_v8) = v2 c
          ∧ r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
          ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1))
      ∧ θ_run (Cert.InProjBRefIdeal.defs (F := Ideal)) (onTc (τ := Cert.InProjBRefIdeal.τ) (Cert.InProjBRefIdeal.main (F := Ideal))) ⟨m', fun _ => 0, g'⟩ (fun r => ∀ c : Dev Cert.InProjBRefIdeal.nD,
          r.2.mem ((c.tc : Thread Cert.InProjBRefIdeal.nD Cert.InProjBRefIdeal.τ).loc Cert.InProjBRefIdeal.main_v9) = v0 c
          ∧ r.2.mem ((c.tc : Thread Cert.InProjBRefIdeal.nD Cert.InProjBRefIdeal.τ).loc Cert.InProjBRefIdeal.main_v10) = v1 c
          ∧ r.2.mem ((c.tc : Thread Cert.InProjBRefIdeal.nD Cert.InProjBRefIdeal.τ).loc Cert.InProjBRefIdeal.main_v11) = v2 c
          ∧ r.2.mem ((c.tc : Thread Cert.InProjBRefIdeal.nD Cert.InProjBRefIdeal.τ).loc Cert.InProjBRefIdeal.main_arg0) = m' ((c.tc : Thread Cert.InProjBRefIdeal.nD Cert.InProjBRefIdeal.τ).loc Cert.InProjBRefIdeal.main_arg0)
          ∧ r.2.mem ((c.tc : Thread Cert.InProjBRefIdeal.nD Cert.InProjBRefIdeal.τ).loc Cert.InProjBRefIdeal.main_arg1) = m' ((c.tc : Thread Cert.InProjBRefIdeal.nD Cert.InProjBRefIdeal.τ).loc Cert.InProjBRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_InProjA_InProjAIdeal : Prop :=
  True

def algebraic_InProjAIdeal_InProjARefIdeal [hInProjAIdeal : Cert.InProjAIdeal.Facts] [hInProjARefIdeal : Cert.InProjARefIdeal.Facts] : Prop :=
  ∀ (m : (ℓ : Loc Cert.InProjAIdeal.nD Cert.InProjAIdeal.τ Cert.InProjAIdeal.sig) → Buf (Elt Ideal) ℓ) (g : Dev Cert.InProjAIdeal.nD → PrngReg)
    (m' : (ℓ : Loc Cert.InProjARefIdeal.nD Cert.InProjARefIdeal.τ Cert.InProjARefIdeal.sig) → Buf (Elt Ideal) ℓ) (g' : Dev Cert.InProjARefIdeal.nD → PrngReg), Pre_InProjAIdeal m →
    (∀ c : Dev Cert.InProjAIdeal.nD,
      m' ((c.tc : Thread Cert.InProjARefIdeal.nD Cert.InProjARefIdeal.τ).loc Cert.InProjARefIdeal.main_arg0) = m ((c.tc : Thread Cert.InProjAIdeal.nD Cert.InProjAIdeal.τ).loc Cert.InProjAIdeal.main_arg0)
      ∧ m' ((c.tc : Thread Cert.InProjARefIdeal.nD Cert.InProjARefIdeal.τ).loc Cert.InProjARefIdeal.main_arg1) = m ((c.tc : Thread Cert.InProjAIdeal.nD Cert.InProjAIdeal.τ).loc Cert.InProjAIdeal.main_arg1)
      ∧ m' ((c.tc : Thread Cert.InProjARefIdeal.nD Cert.InProjARefIdeal.τ).loc Cert.InProjARefIdeal.main_arg2) = m ((c.tc : Thread Cert.InProjAIdeal.nD Cert.InProjAIdeal.τ).loc Cert.InProjAIdeal.main_arg2)) →
    ∃ (v0 : (c : Dev Cert.InProjAIdeal.nD) → Buf (Elt Ideal) ((c.tc : Thread Cert.InProjAIdeal.nD Cert.InProjAIdeal.τ).loc Cert.InProjAIdeal.main_v0_0)) (v1 : (c : Dev Cert.InProjAIdeal.nD) → Buf (Elt Ideal) ((c.tc : Thread Cert.InProjAIdeal.nD Cert.InProjAIdeal.τ).loc Cert.InProjAIdeal.main_v0_1)),
      θ_run (Cert.InProjAIdeal.defs (F := Ideal)) (onTc (τ := Cert.InProjAIdeal.τ) (Cert.InProjAIdeal.main (F := Ideal))) ⟨m, fun _ => 0, g⟩ (fun r => ∀ c : Dev Cert.InProjAIdeal.nD,
          r.2.mem ((c.tc : Thread Cert.InProjAIdeal.nD Cert.InProjAIdeal.τ).loc Cert.InProjAIdeal.main_v0_0) = v0 c
          ∧ r.2.mem ((c.tc : Thread Cert.InProjAIdeal.nD Cert.InProjAIdeal.τ).loc Cert.InProjAIdeal.main_v0_1) = v1 c
          ∧ r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
          ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1)
          ∧ r.2.mem ((c.tc : Thread Cert.InProjAIdeal.nD Cert.InProjAIdeal.τ).loc Cert.InProjAIdeal.main_arg2) = m ((c.tc : Thread Cert.InProjAIdeal.nD Cert.InProjAIdeal.τ).loc Cert.InProjAIdeal.main_arg2))
      ∧ θ_run (Cert.InProjARefIdeal.defs (F := Ideal)) (onTc (τ := Cert.InProjARefIdeal.τ) (Cert.InProjARefIdeal.main (F := Ideal))) ⟨m', fun _ => 0, g'⟩ (fun r => ∀ c : Dev Cert.InProjARefIdeal.nD,
          r.2.mem ((c.tc : Thread Cert.InProjARefIdeal.nD Cert.InProjARefIdeal.τ).loc Cert.InProjARefIdeal.main_v16) = v0 c
          ∧ r.2.mem ((c.tc : Thread Cert.InProjARefIdeal.nD Cert.InProjARefIdeal.τ).loc Cert.InProjARefIdeal.main_v17) = v1 c
          ∧ r.2.mem ((c.tc : Thread Cert.InProjARefIdeal.nD Cert.InProjARefIdeal.τ).loc Cert.InProjARefIdeal.main_arg0) = m' ((c.tc : Thread Cert.InProjARefIdeal.nD Cert.InProjARefIdeal.τ).loc Cert.InProjARefIdeal.main_arg0)
          ∧ r.2.mem ((c.tc : Thread Cert.InProjARefIdeal.nD Cert.InProjARefIdeal.τ).loc Cert.InProjARefIdeal.main_arg1) = m' ((c.tc : Thread Cert.InProjARefIdeal.nD Cert.InProjARefIdeal.τ).loc Cert.InProjARefIdeal.main_arg1)
          ∧ r.2.mem ((c.tc : Thread Cert.InProjARefIdeal.nD Cert.InProjARefIdeal.τ).loc Cert.InProjARefIdeal.main_arg2) = m' ((c.tc : Thread Cert.InProjARefIdeal.nD Cert.InProjARefIdeal.τ).loc Cert.InProjARefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v25) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProjB : Cert.InProjB.Facts) (hInProjBIdeal : Cert.InProjBIdeal.Facts) (hInProjBRefIdeal : Cert.InProjBRefIdeal.Facts) (hMerge : Cert.Merge.Facts) (hMergeIdeal : Cert.MergeIdeal.Facts) (hMergeRefIdeal : Cert.MergeRefIdeal.Facts) (hInProjA : Cert.InProjA.Facts) (hInProjAIdeal : Cert.InProjAIdeal.Facts) (hInProjARefIdeal : Cert.InProjARefIdeal.Facts) (hPle : Cert.Ple.Facts) (hPleIdeal : Cert.PleIdeal.Facts) (hPleRefIdeal : Cert.PleRefIdeal.Facts) (hPre_attention_scores_real : Cert.Pre_attention_scores_real.Facts),
    quiescent_Kernel (hKernel := hKernel)
    ∧ quiescent_KernelIdeal (hKernelIdeal := hKernelIdeal)
    ∧ quiescent_KernelIdeal_pre_attention_scores_real (hKernelIdeal := hKernelIdeal) (hPre_attention_scores_real := hPre_attention_scores_real)
    ∧ quiescent_ReferenceIdeal (hReferenceIdeal := hReferenceIdeal)
    ∧ quiescent_ReferenceIdeal_pre_attention_scores_real (hReferenceIdeal := hReferenceIdeal) (hPre_attention_scores_real := hPre_attention_scores_real)
    ∧ quiescent_Ffn (hFfn := hFfn)
    ∧ quiescent_FfnIdeal (hFfnIdeal := hFfnIdeal)
    ∧ quiescent_FfnRefIdeal (hFfnRefIdeal := hFfnRefIdeal)
    ∧ quiescent_InProjB (hInProjB := hInProjB)
    ∧ quiescent_InProjBIdeal (hInProjBIdeal := hInProjBIdeal)
    ∧ quiescent_InProjBRefIdeal (hInProjBRefIdeal := hInProjBRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProjA (hInProjA := hInProjA)
    ∧ quiescent_InProjAIdeal (hInProjAIdeal := hInProjAIdeal)
    ∧ quiescent_InProjARefIdeal (hInProjARefIdeal := hInProjARefIdeal)
    ∧ quiescent_Ple (hPle := hPle)
    ∧ quiescent_PleIdeal (hPleIdeal := hPleIdeal)
    ∧ quiescent_PleRefIdeal (hPleRefIdeal := hPleRefIdeal)
    ∧ preserves_Kernel_KernelIdeal
    ∧ algebraic_KernelIdeal_ReferenceIdeal_pre_attention_scores_real (hKernelIdeal := hKernelIdeal) (hReferenceIdeal := hReferenceIdeal) (hPre_attention_scores_real := hPre_attention_scores_real)
    ∧ preserves_Ffn_FfnIdeal
    ∧ algebraic_FfnIdeal_FfnRefIdeal (hFfnIdeal := hFfnIdeal) (hFfnRefIdeal := hFfnRefIdeal)
    ∧ preserves_InProjB_InProjBIdeal
    ∧ algebraic_InProjBIdeal_InProjBRefIdeal (hInProjBIdeal := hInProjBIdeal) (hInProjBRefIdeal := hInProjBRefIdeal)
    ∧ preserves_Merge_MergeIdeal
    ∧ algebraic_MergeIdeal_MergeRefIdeal (hMergeIdeal := hMergeIdeal) (hMergeRefIdeal := hMergeRefIdeal)
    ∧ preserves_InProjA_InProjAIdeal
    ∧ algebraic_InProjAIdeal_InProjARefIdeal (hInProjAIdeal := hInProjAIdeal) (hInProjARefIdeal := hInProjARefIdeal)
    ∧ preserves_Ple_PleIdeal
    ∧ algebraic_PleIdeal_PleRefIdeal (hPleIdeal := hPleIdeal) (hPleRefIdeal := hPleRefIdeal)
-- ==== Pre_attention_scores_real.lean ====
abbrev S512x6144 : Shape := ⟨2, ![512, 6144]⟩
abbrev S512x5632 : Shape := ⟨2, ![512, 5632]⟩
abbrev S16 : Shape := ⟨1, ![16]⟩
abbrev S16x128x256 : Shape := ⟨3, ![16, 128, 256]⟩
abbrev S16x8x128x256 : Shape := ⟨4, ![16, 8, 128, 256]⟩
abbrev S512x1024 : Shape := ⟨2, ![512, 1024]⟩
abbrev S512x256 : Shape := ⟨2, ![512, 256]⟩
abbrev S_ : Shape := ⟨0, ![]⟩

class Facts : Prop where
  slices_S512x5632_S512x1024_0_2048 : S512x5632.Slices ![0, 2048] S512x1024
  bitsLt_bf16_f32 : FTy.bits .bf16 < FTy.bits .f32
  slices_S512x5632_S512x256_0_5120 : S512x5632.Slices ![0, 5120] S512x256
  bcast_S_S512x1024 : S_.BroadcastsInDim S512x1024 (![] : Fin 0 → Fin S512x1024.rank)
  bcast_S_S512x256 : S_.BroadcastsInDim S512x256 (![] : Fin 0 → Fin S512x256.rank)
  bcast_S_S16 : S_.BroadcastsInDim S16 (![] : Fin 0 → Fin S16.rank)
  bcast_S_S16x128x256 : S_.BroadcastsInDim S16x128x256 (![] : Fin 0 → Fin S16x128x256.rank)

variable [Facts]

def fn {F : FTy → Type} [FloatOps F] (main_arg0 : FVec F S512x6144 .bf16) (main_arg1 : FVec F S512x5632 .bf16) (main_arg2 : FVec F S16 .f32) (main_arg3 : FVec F S16x128x256 .f32) (main_arg4 : FVec F S16x128x256 .f32) (main_arg5 : FVec F S16x8x128x256 .f32) : IVec S512x1024 1 × IVec S512x256 1 × IVec S16 1 × IVec S16x128x256 1 :=
  let main_v0 : FVec F S512x1024 .bf16 := (extractStridedSlice S512x1024 ![0, 2048] · slices_S512x5632_S512x1024_0_2048) main_arg1
  let main_v1 : FVec F S512x1024 .f32 := (extf .f32 · bitsLt_bf16_f32) main_v0
  let main_v2 : FVec F S512x256 .bf16 := (extractStridedSlice S512x256 ![0, 5120] · slices_S512x5632_S512x256_0_5120) main_arg1
  let main_v3 : FVec F S512x256 .f32 := (extf .f32 · bitsLt_bf16_f32) main_v2
  let main_v4 : FVec F S512x1024 .f32 := Host.absf main_v1
  let main_cst : FVec F S_ .f32 := constant S_ .f32 0x7F800000#32
  let main_v5 : FVec F S512x1024 .f32 := broadcastInDim S512x1024 ![] bcast_S_S512x1024 main_cst
  let main_v6 : IVec S512x1024 1 := cmpf .olt main_v4 main_v5
  let main_v7 : FVec F S512x256 .f32 := Host.absf main_v3
  let main_cst_0 : FVec F S_ .f32 := constant S_ .f32 0x7F800000#32
  let main_v8 : FVec F S512x256 .f32 := broadcastInDim S512x256 ![] bcast_S_S512x256 main_cst_0
  let main_v9 : IVec S512x256 1 := cmpf .olt main_v7 main_v8
  let main_v10 : FVec F S16 .f32 := Host.absf main_arg2
  let main_cst_1 : FVec F S_ .f32 := constant S_ .f32 0x7F800000#32
  let main_v11 : FVec F S16 .f32 := broadcastInDim S16 ![] bcast_S_S16 main_cst_1
  let main_v12 : IVec S16 1 := cmpf .olt main_v10 main_v11
  let main_v13 : FVec F S16x128x256 .f32 := Host.absf main_arg3
  let main_cst_2 : FVec F S_ .f32 := constant S_ .f32 0x7F800000#32
  let main_v14 : FVec F S16x128x256 .f32 := broadcastInDim S16x128x256 ![] bcast_S_S16x128x256 main_cst_2
  let main_v15 : IVec S16x128x256 1 := cmpf .olt main_v13 main_v14
  (main_v6, main_v9, main_v12, main_v15)
-- ==== Kernel.lean ====
abbrev S512x6144 : Shape := ⟨2, ![512, 6144]⟩
abbrev S512x5632 : Shape := ⟨2, ![512, 5632]⟩
abbrev S16 : Shape := ⟨1, ![16]⟩
abbrev S16x128x256 : Shape := ⟨3, ![16, 128, 256]⟩
abbrev S16x8x128x256 : Shape := ⟨4, ![16, 8, 128, 256]⟩
abbrev S512x1024 : Shape := ⟨2, ![512, 1024]⟩
abbrev S512x2048 : Shape := ⟨2, ![512, 2048]⟩
abbrev S32x2048 : Shape := ⟨2, ![32, 2048]⟩
abbrev S32x1024 : Shape := ⟨2, ![32, 1024]⟩
abbrev S32x512 : Shape := ⟨2, ![32, 512]⟩
abbrev S1x128x256 : Shape := ⟨3, ![1, 128, 256]⟩
abbrev S1x8x128x256 : Shape := ⟨4, ![1, 8, 128, 256]⟩
abbrev S8x128x256 : Shape := ⟨3, ![8, 128, 256]⟩
abbrev S160x512 : Shape := ⟨2, ![160, 512]⟩
abbrev S16x160x32 : Shape := ⟨3, ![16, 160, 32]⟩
abbrev S8x32x32 : Shape := ⟨3, ![8, 32, 32]⟩
abbrev S8x32x128 : Shape := ⟨3, ![8, 32, 128]⟩
abbrev S160x32 : Shape := ⟨2, ![160, 32]⟩
abbrev S1x160x32 : Shape := ⟨3, ![1, 160, 32]⟩
abbrev S32x32 : Shape := ⟨2, ![32, 32]⟩
abbrev S32x128 : Shape := ⟨2, ![32, 128]⟩
abbrev S1x32x32 : Shape := ⟨3, ![1, 32, 32]⟩
abbrev S1x32x128 : Shape := ⟨3, ![1, 32, 128]⟩
abbrev S128x256 : Shape := ⟨2, ![128, 256]⟩
abbrev S32x256 : Shape := ⟨2, ![32, 256]⟩
abbrev S32 : Shape := ⟨1, ![32]⟩
abbrev S32x1 : Shape := ⟨2, ![32, 1]⟩
abbrev S160x64 : Shape := ⟨2, ![160, 64]⟩
abbrev S64x160 : Shape := ⟨2, ![64, 160]⟩
abbrev S32x64 : Shape := ⟨2, ![32, 64]⟩
abbrev S1 : Shape := ⟨1, ![1]⟩
abbrev S1x32 : Shape := ⟨2, ![1, 32]⟩
abbrev S64x32 : Shape := ⟨2, ![64, 32]⟩

abbrev nBuf : Space → Nat
  | .hbm => 9
  | .vmem => 28
  | .smem => 1
  | _ => 0

abbrev bufTy : (tb : Table) → Fin (tcTables nBuf tb) → BufTy
  | .hbm, ⟨0, _⟩ => ⟨S512x6144, .bf16⟩
  | .hbm, ⟨1, _⟩ => ⟨S512x5632, .bf16⟩
  | .hbm, ⟨2, _⟩ => ⟨S16, .f32⟩
  | .hbm, ⟨3, _⟩ => ⟨S16x128x256, .f32⟩
  | .hbm, ⟨4, _⟩ => ⟨S16x128x256, .f32⟩
  | .hbm, ⟨5, _⟩ => ⟨S16x8x128x256, .f32⟩
  | .hbm, ⟨6, _⟩ => ⟨S512x1024, .bf16⟩
  | .hbm, ⟨7, _⟩ => ⟨S512x2048, .bf16⟩
  | .hbm, ⟨8, _⟩ => ⟨S16x8x128x256, .f32⟩
  | .local _ .vmem, ⟨0, _⟩ => ⟨S32x2048, .bf16⟩
  | .local _ .vmem, ⟨1, _⟩ => ⟨S32x2048, .bf16⟩
  | .local _ .vmem, ⟨2, _⟩ => ⟨S32x1024, .bf16⟩
  | .local _ .vmem, ⟨3, _⟩ => ⟨S32x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S32x512, .bf16⟩
  | .local _ .vmem, ⟨9, _⟩ => ⟨S32x512, .bf16⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x8x128x256, .f32⟩
  | .local _ .vmem, ⟨15, _⟩ => ⟨S1x8x128x256, .f32⟩
  | .local _ .vmem, ⟨16, _⟩ => ⟨S32x1024, .bf16⟩
  | .local _ .vmem, ⟨17, _⟩ => ⟨S32x1024, .bf16⟩
  | .local _ .vmem, ⟨18, _⟩ => ⟨S32x2048, .bf16⟩
  | .local _ .vmem, ⟨19, _⟩ => ⟨S32x2048, .bf16⟩
  | .local _ .vmem, ⟨20, _⟩ => ⟨S1x8x128x256, .f32⟩
  | .local _ .vmem, ⟨21, _⟩ => ⟨S1x8x128x256, .f32⟩
  | .local _ .vmem, ⟨22, _⟩ => ⟨S8x128x256, .f32⟩
  | .local _ .vmem, ⟨23, _⟩ => ⟨S160x512, .bf16⟩
  | .local _ .vmem, ⟨24, _⟩ => ⟨S16x160x32, .f32⟩
  | .local _ .vmem, ⟨25, _⟩ => ⟨S8x32x32, .f32⟩
  | .local _ .vmem, ⟨26, _⟩ => ⟨S8x32x128, .f32⟩
  | .local _ .vmem, ⟨27, _⟩ => ⟨S8x32x128, .f32⟩
  | .local _ .smem, ⟨0, _⟩ => ⟨S16, .f32⟩
  | _, _ => ⟨S512x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "alibi0" => some ((-((Real.sqrt 2)⁻¹) : ℝ) : EReal)
  | "alibi10" => some ((-((Real.sqrt 2048)⁻¹) : ℝ) : EReal)
  | "alibi12" => some ((-((Real.sqrt 8192)⁻¹) : ℝ) : EReal)
  | "alibi14" => some ((-((Real.sqrt 32768)⁻¹) : ℝ) : EReal)
  | "alibi2" => some ((-((Real.sqrt 8)⁻¹) : ℝ) : EReal)
  | "alibi4" => some ((-((Real.sqrt 32)⁻¹) : ℝ) : EReal)
  | "alibi6" => some ((-((Real.sqrt 128)⁻¹) : ℝ) : EReal)
  | "alibi8" => some ((-((Real.sqrt 512)⁻¹) : ℝ) : EReal)
  | "gamma0_pow32" => some ((529144398052420314716929933900838757437386767361 / 1461501637330902918203684832716283019655932542976 : ℝ) : EReal)
  | "gamma1_pow32" => some ((3792255435734639939700427436560372449070499280862066964481 / 6277101735386680763835789423207666416102355444464034512896 : ℝ) : EReal)
  | "gamma2_pow32" => some ((20975825942850835435487946371038619427046538071435595461971578449921 / 26959946667150639794667015087019630673637144422540572481103610249216 : ℝ) : EReal)
  | "gamma3_pow32" => some ((102161150204658159326162171757797299165741800222807601117528975009918212890625 / 115792089237316195423570985008687907853269984665640564039457584007913129639936 : ℝ) : EReal)
  | "gamma4_pow32" => some ((467163393279595717114768225276800784329100809373754920279961651273278375640467247185921 / 497323236409786642155382248146820840100456150797347717440463976893159497012533375533056 : ℝ) : EReal)
  | "gamma5_pow32" => some ((2070238013477641369047598116766564085240532940704103852521683969646068506410078128294861668843521 / 2135987035920910082395021706169552114602704522356652769947041607822219725780640550022962086936576 : ℝ) : EReal)
  | "gamma6_pow32" => some ((9031730398273850370489964795324860346612272594123138590987237281074062178783633665532752512626558213488641 / 9173994463960286046443283581208347763186259956673124494950355357547691504353939232280074212440502746218496 : ℝ) : EReal)
  | "gamma7_pow32" => some ((39095340061194871014807021519465601639154637254407809125193773242775671690011496862934962943219579756259918212890625 / 39402006196394479212279040100143613805079739270465446667948293404245721771497210611414266254884915640806627990306816 : ℝ) : EReal)
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | "log_gamma4" => some ((Real.log (511 / 512) : ℝ) : EReal)
  | "log_gamma5" => some ((Real.log (1023 / 1024) : ℝ) : EReal)
  | "log_gamma6" => some ((Real.log (2047 / 2048) : ℝ) : EReal)
  | "log_gamma7" => some ((Real.log (4095 / 4096) : ℝ) : EReal)
  | _ => none
-- ==== ReferenceIdeal.lean ====
abbrev S512x6144 : Shape := ⟨2, ![512, 6144]⟩
abbrev S512x5632 : Shape := ⟨2, ![512, 5632]⟩
abbrev S16 : Shape := ⟨1, ![16]⟩
abbrev S16x128x256 : Shape := ⟨3, ![16, 128, 256]⟩
abbrev S16x8x128x256 : Shape := ⟨4, ![16, 8, 128, 256]⟩
abbrev S16x32x6144 : Shape := ⟨3, ![16, 32, 6144]⟩
abbrev S16x32x5632 : Shape := ⟨3, ![16, 32, 5632]⟩
abbrev S16x32x2048 : Shape := ⟨3, ![16, 32, 2048]⟩
abbrev S16x32x1024 : Shape := ⟨3, ![16, 32, 1024]⟩
abbrev S16x32x256 : Shape := ⟨3, ![16, 32, 256]⟩
abbrev S16x32x4x4x64 : Shape := ⟨5, ![16, 32, 4, 4, 64]⟩
abbrev S16x32x4x64 : Shape := ⟨4, ![16, 32, 4, 64]⟩
abbrev S16x128x4x64 : Shape := ⟨4, ![16, 128, 4, 64]⟩
abbrev S16x160x4x64 : Shape := ⟨4, ![16, 160, 4, 64]⟩
abbrev S32 : Shape := ⟨1, ![32]⟩
abbrev S_ : Shape := ⟨0, ![]⟩
abbrev S160 : Shape := ⟨1, ![160]⟩
abbrev S32x1 : Shape := ⟨2, ![32, 1]⟩
abbrev S1x160 : Shape := ⟨2, ![1, 160]⟩
abbrev S32x160 : Shape := ⟨2, ![32, 160]⟩
abbrev S16x4x160x32x4 : Shape := ⟨5, ![16, 4, 160, 32, 4]⟩
abbrev S16x4x4x32x160 : Shape := ⟨5, ![16, 4, 4, 32, 160]⟩
abbrev S4x4x1x1 : Shape := ⟨4, ![4, 4, 1, 1]⟩
abbrev S1x1x32x160 : Shape := ⟨4, ![1, 1, 32, 160]⟩
abbrev S4x4x32x160 : Shape := ⟨4, ![4, 4, 32, 160]⟩
abbrev S1x4x4x32x160 : Shape := ⟨5, ![1, 4, 4, 32, 160]⟩
abbrev S16x4x4x32 : Shape := ⟨4, ![16, 4, 4, 32]⟩
abbrev S16x4x4x32x1 : Shape := ⟨5, ![16, 4, 4, 32, 1]⟩
abbrev S1x4x4x1x1 : Shape := ⟨5, ![1, 4, 4, 1, 1]⟩
abbrev S16x4x64x4x32 : Shape := ⟨5, ![16, 4, 64, 4, 32]⟩
abbrev S512x1024 : Shape := ⟨2, ![512, 1024]⟩
abbrev S8 : Shape := ⟨1, ![8]⟩
abbrev S16x32x8x128 : Shape := ⟨4, ![16, 32, 8, 128]⟩
abbrev S16x32x8x256 : Shape := ⟨4, ![16, 32, 8, 256]⟩
abbrev S1x32 : Shape := ⟨2, ![1, 32]⟩
abbrev S32x32 : Shape := ⟨2, ![32, 32]⟩
abbrev S8x1x1 : Shape := ⟨3, ![8, 1, 1]⟩
abbrev S1x32x32 : Shape := ⟨3, ![1, 32, 32]⟩
abbrev S8x32x32 : Shape := ⟨3, ![8, 32, 32]⟩
abbrev S16x8x32x32 : Shape := ⟨4, ![16, 8, 32, 32]⟩
abbrev S1x8x32x32 : Shape := ⟨4, ![1, 8, 32, 32]⟩
abbrev S16x8x256x32 : Shape := ⟨4, ![16, 8, 256, 32]⟩
abbrev S1x8 : Shape := ⟨2, ![1, 8]⟩
abbrev S32x8 : Shape := ⟨2, ![32, 8]⟩
abbrev S1x32x8x1 : Shape := ⟨4, ![1, 32, 8, 1]⟩
abbrev S1x8x1x1 : Shape := ⟨4, ![1, 8, 1, 1]⟩
abbrev S16x32x8 : Shape := ⟨3, ![16, 32, 8]⟩
abbrev S16x32x8x1 : Shape := ⟨4, ![16, 32, 8, 1]⟩
abbrev S512x2048 : Shape := ⟨2, ![512, 2048]⟩

abbrev nBuf : Space → Nat
  | .hbm => 193
  | .vmem => 0
  | .smem => 0
  | _ => 0

abbrev hbmTy0_0 (i : Nat) : BufTy := match i % 128 with
  | 0 => ⟨S512x6144, .bf16⟩
  | 1 => ⟨S512x5632, .bf16⟩
  | 2 => ⟨S16, .f32⟩
  | 3 => ⟨S16x128x256, .f32⟩
  | 4 => ⟨S16x128x256, .f32⟩
  | 5 => ⟨S16x8x128x256, .f32⟩
  | 6 => ⟨S512x6144, .f32⟩
  | 7 => ⟨S16x32x6144, .f32⟩
  | 8 => ⟨S512x5632, .f32⟩
  | 9 => ⟨S16x32x5632, .f32⟩
  | 10 => ⟨S16x32x2048, .f32⟩
  | 11 => ⟨S16x32x1024, .f32⟩
  | 12 => ⟨S16x32x1024, .f32⟩
  | 13 => ⟨S16x32x1024, .f32⟩
  | 14 => ⟨S16x32x256, .f32⟩
  | 15 => ⟨S16x32x256, .f32⟩
  | 16 => ⟨S16x32x4x4x64, .f32⟩
  | 17 => ⟨S16x32x4x64, .f32⟩
  | 18 => ⟨S16x32x4x64, .f32⟩
  | 19 => ⟨S16x128x4x64, .f32⟩
  | 20 => ⟨S16x160x4x64, .f32⟩
  | 21 => ⟨S16x128x4x64, .f32⟩
  | 22 => ⟨S16x160x4x64, .f32⟩
  | 23 => ⟨S32, .i32⟩
  | 24 => ⟨S_, .i32⟩
  | 25 => ⟨S32, .i32⟩
  | 26 => ⟨S32, .i32⟩
  | 27 => ⟨S160, .i32⟩
  | 28 => ⟨S32x1, .i32⟩
  | 29 => ⟨S1x160, .i32⟩
  | 30 => ⟨S32x160, .i32⟩
  | 31 => ⟨S32x160, .i32⟩
  | 32 => ⟨S32x160, .i32⟩
  | 33 => ⟨S32x160, .i32⟩
  | 34 => ⟨S16x4x160x32x4, .f32⟩
  | 35 => ⟨S16x4x4x32x160, .f32⟩
  | 36 => ⟨S_, .f32⟩
  | 37 => ⟨S16x4x4x32x160, .f32⟩
  | 38 => ⟨S16x4x4x32x160, .f32⟩
  | 39 => ⟨S16, .i32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S4x4x1x1, .f32⟩
  | 54 => ⟨S32x160, .f32⟩
  | 55 => ⟨S1x1x32x160, .f32⟩
  | 56 => ⟨S4x4x32x160, .f32⟩
  | 57 => ⟨S4x4x32x160, .f32⟩
  | 58 => ⟨S4x4x32x160, .f32⟩
  | 59 => ⟨S1x4x4x32x160, .f32⟩
  | 60 => ⟨S16x4x4x32x160, .f32⟩
  | 61 => ⟨S16x4x4x32x160, .f32⟩
  | 62 => ⟨S4x4x1x1, .f32⟩
  | 63 => ⟨S_, .f32⟩
  | 64 => ⟨S16x4x4x32, .f32⟩
  | 65 => ⟨S16x4x4x32x1, .f32⟩
  | 66 => ⟨S1x4x4x1x1, .f32⟩
  | 67 => ⟨S16x4x4x32x1, .f32⟩
  | 68 => ⟨S16x4x4x32x1, .f32⟩
  | 69 => ⟨S16x4x4x32x160, .f32⟩
  | 70 => ⟨S16x4x4x32x160, .f32⟩
  | 71 => ⟨S16x4x4x32x160, .f32⟩
  | 72 => ⟨S_, .f32⟩
  | 73 => ⟨S16x4x4x32, .f32⟩
  | 74 => ⟨S16x4x4x32x1, .f32⟩
  | 75 => ⟨S1x4x4x1x1, .f32⟩
  | 76 => ⟨S16x4x4x32x1, .f32⟩
  | 77 => ⟨S16x4x4x32x1, .f32⟩
  | 78 => ⟨S16x4x4x32x1, .f32⟩
  | 79 => ⟨S16x4x4x32x1, .f32⟩
  | 80 => ⟨S16x4x4x32x160, .f32⟩
  | 81 => ⟨S16x4x4x32x160, .f32⟩
  | 82 => ⟨S16x4x64x4x32, .f32⟩
  | 83 => ⟨S16x32x4x4x64, .f32⟩
  | 84 => ⟨S512x1024, .f32⟩
  | 85 => ⟨S8, .i32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S8, .f32⟩
  | 97 => ⟨S16x32x8x128, .f32⟩
  | 98 => ⟨S16x32x8x128, .f32⟩
  | 99 => ⟨S_, .f32⟩
  | 100 => ⟨S16x32x8x128, .f32⟩
  | 101 => ⟨S16x32x8x128, .f32⟩
  | 102 => ⟨S16x32x8x256, .f32⟩
  | 103 => ⟨S32, .i32⟩
  | 104 => ⟨S32, .f32⟩
  | 105 => ⟨S32x1, .f32⟩
  | 106 => ⟨S1x32, .f32⟩
  | 107 => ⟨S32x32, .f32⟩
  | 108 => ⟨S32x32, .f32⟩
  | 109 => ⟨S32x32, .f32⟩
  | 110 => ⟨S_, .f32⟩
  | 111 => ⟨S32x32, .f32⟩
  | 112 => ⟨S32x32, .i1⟩
  | 113 => ⟨S8x1x1, .f32⟩
  | 114 => ⟨S_, .f32⟩
  | 115 => ⟨S32x32, .f32⟩
  | 116 => ⟨S32x32, .f32⟩
  | 117 => ⟨S1x32x32, .f32⟩
  | 118 => ⟨S8x32x32, .f32⟩
  | 119 => ⟨S8x32x32, .f32⟩
  | 120 => ⟨S8x32x32, .f32⟩
  | 121 => ⟨S8x32x32, .f32⟩
  | 122 => ⟨S_, .f32⟩
  | 123 => ⟨S_, .f32⟩
  | 124 => ⟨S8x32x32, .i1⟩
  | 125 => ⟨S8x32x32, .f32⟩
  | 126 => ⟨S8x32x32, .f32⟩
  | 127 => ⟨S16x8x32x32, .f32⟩
  | _ => ⟨S512x6144, .bf16⟩

abbrev hbmTy0_1 (i : Nat) : BufTy := match i % 128 with
  | 0 => ⟨S1x8x32x32, .f32⟩
  | 1 => ⟨S16x8x32x32, .f32⟩
  | 2 => ⟨S16x8x32x32, .f32⟩
  | 3 => ⟨S16x8x256x32, .f32⟩
  | 4 => ⟨S16x32x8x256, .f32⟩
  | 5 => ⟨S1x8, .f32⟩
  | 6 => ⟨S32x1, .f32⟩
  | 7 => ⟨S_, .f32⟩
  | 8 => ⟨S32x1, .f32⟩
  | 9 => ⟨S32x1, .f32⟩
  | 10 => ⟨S32x8, .f32⟩
  | 11 => ⟨S32x8, .f32⟩
  | 12 => ⟨S32x8, .f32⟩
  | 13 => ⟨S32x8, .f32⟩
  | 14 => ⟨S16x8x256x32, .f32⟩
  | 15 => ⟨S16x32x8x256, .f32⟩
  | 16 => ⟨S1x32x8x1, .f32⟩
  | 17 => ⟨S16x32x8x256, .f32⟩
  | 18 => ⟨S16x32x8x256, .f32⟩
  | 19 => ⟨S1x8, .f32⟩
  | 20 => ⟨S32x1, .f32⟩
  | 21 => ⟨S_, .f32⟩
  | 22 => ⟨S32x1, .f32⟩
  | 23 => ⟨S32x1, .f32⟩
  | 24 => ⟨S32x8, .f32⟩
  | 25 => ⟨S32x8, .f32⟩
  | 26 => ⟨S32x8, .f32⟩
  | 27 => ⟨S32x8, .f32⟩
  | 28 => ⟨S_, .f32⟩
  | 29 => ⟨S8, .f32⟩
  | 30 => ⟨S8, .f32⟩
  | 31 => ⟨S8, .f32⟩
  | 32 => ⟨S1x8x1x1, .f32⟩
  | 33 => ⟨S16x8x128x256, .f32⟩
  | 34 => ⟨S16x8x128x256, .f32⟩
  | 35 => ⟨S1x32x8x1, .f32⟩
  | 36 => ⟨S16x32x8x128, .f32⟩
  | 37 => ⟨S16x32x8x128, .f32⟩
  | 38 => ⟨S16x8x128x256, .f32⟩
  | 39 => ⟨S16x8x128x256, .f32⟩
  | 40 => ⟨S16x32x8x256, .f32⟩
  | 41 => ⟨S_, .f32⟩
  | 42 => ⟨S16x32x8, .f32⟩
  | 43 => ⟨S16x32x8x1, .f32⟩
  | 44 => ⟨S_, .f32⟩
  | 45 => ⟨S16x32x8x1, .f32⟩
  | 46 => ⟨S16x32x8x1, .f32⟩
  | 47 => ⟨S16x32x8x256, .f32⟩
  | 48 => ⟨S16x32x8x256, .f32⟩
  | 49 => ⟨S16x32x8x256, .f32⟩
  | 50 => ⟨S_, .f32⟩
  | 51 => ⟨S16x32x8, .f32⟩
  | 52 => ⟨S16x32x8x1, .f32⟩
  | 53 => ⟨S_, .f32⟩
  | 54 => ⟨S16x32x8x1, .f32⟩
  | 55 => ⟨S16x32x8x1, .f32⟩
  | 56 => ⟨S_, .f32⟩
  | 57 => ⟨S16x32x8x1, .f32⟩
  | 58 => ⟨S16x32x8x1, .f32⟩
  | 59 => ⟨S16x32x8x1, .f32⟩
  | 60 => ⟨S16x32x8x256, .f32⟩
  | 61 => ⟨S16x32x8x256, .f32⟩
  | 62 => ⟨S512x2048, .f32⟩
  | 63 => ⟨S512x1024, .bf16⟩
  | 64 => ⟨S512x2048, .bf16⟩
  | _ => ⟨S512x6144, .bf16⟩

abbrev hbmTy (i : Nat) : BufTy := match i / 128 with
  | 0 => hbmTy0_0 i
  | 1 => hbmTy0_1 i
  | _ => ⟨S512x6144, .bf16⟩

abbrev bufTy : (tb : Table) → Fin (tcTables nBuf tb) → BufTy
  | .hbm, ⟨i, _⟩ => hbmTy i
  | _, _ => ⟨S512x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_5 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_6 : Ref sig .tc := ⟨.hbm, 87, rfl⟩
abbrev main_v73 : Ref sig .tc := ⟨.hbm, 88, rfl⟩
abbrev main_v74 : Ref sig .tc := ⟨.hbm, 89, rfl⟩
abbrev main_cst_7 : Ref sig .tc := ⟨.hbm, 90, rfl⟩
abbrev main_v75 : Ref sig .tc := ⟨.hbm, 91, rfl⟩
abbrev main_v76 : Ref sig .tc := ⟨.hbm, 92, rfl⟩
abbrev main_cst_8 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_10 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_11 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_12 : Ref sig .tc := ⟨.hbm, 122, rfl⟩
abbrev main_call0_v0 : Ref sig .tc := ⟨.hbm, 123, rfl⟩
abbrev main_call0_v1 : Ref sig .tc := ⟨.hbm, 124, rfl⟩
abbrev main_call0_v2 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_13 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_14 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_15 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_16 : Ref sig .tc := ⟨.hbm, 169, rfl⟩
abbrev main_v142 : Ref sig .tc := ⟨.hbm, 170, rfl⟩
abbrev main_v143 : Ref sig .tc := ⟨.hbm, 171, rfl⟩
abbrev main_cst_17 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_cst_18 : Ref sig .tc := ⟨.hbm, 178, rfl⟩
abbrev main_v149 : Ref sig .tc := ⟨.hbm, 179, rfl⟩
abbrev main_v150 : Ref sig .tc := ⟨.hbm, 180, rfl⟩
abbrev main_cst_19 : Ref sig .tc := ⟨.hbm, 181, rfl⟩
abbrev main_v151 : Ref sig .tc := ⟨.hbm, 182, rfl⟩
abbrev main_v152 : Ref sig .tc := ⟨.hbm, 183, rfl⟩
abbrev main_cst_20 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩

abbrev nD : Nat := 1
abbrev τ : Topo := Topo.v7x

variable {F : FTy → Type} [FloatOps F]
-- ==== Ffn.lean ====
abbrev S32768x2048 : Shape := ⟨2, ![32768, 2048]⟩
abbrev S2048x11264 : Shape := ⟨2, ![2048, 11264]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩

abbrev nBuf : Space → Nat
  | .hbm => 6
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048x11264, .bf16⟩
  | .hbm, ⟨2, _⟩ => ⟨S5632x2048, .bf16⟩
  | .hbm, ⟨3, _⟩ => ⟨S1x2048, .f32⟩
  | .hbm, ⟨4, _⟩ => ⟨S1x2048, .f32⟩
  | .hbm, ⟨5, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x2048 : Shape := ⟨2, ![32768, 2048]⟩
abbrev S2048x11264 : Shape := ⟨2, ![2048, 11264]⟩
abbrev S5632x2048 : Shape := ⟨2, ![5632, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x11264 : Shape := ⟨2, ![32768, 11264]⟩
abbrev S32768x5632 : Shape := ⟨2, ![32768, 5632]⟩

abbrev nBuf : Space → Nat
  | .hbm => 56
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x11264, .bf16⟩
  | .hbm, ⟨2, _⟩ => ⟨S5632x2048, .bf16⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S2048x11264, .f32⟩
  | .hbm, ⟨23, _⟩ => ⟨S32768x11264, .f32⟩
  | .hbm, ⟨24, _⟩ => ⟨S32768x5632, .f32⟩
  | .hbm, ⟨25, _⟩ => ⟨S32768x5632, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S_, .f32⟩
  | .hbm, ⟨32, _⟩ => ⟨S32768x5632, .f32⟩
  | .hbm, ⟨33, _⟩ => ⟨S32768x5632, .f32⟩
  | .hbm, ⟨34, _⟩ => ⟨S32768x5632, .f32⟩
  | .hbm, ⟨35, _⟩ => ⟨S32768x5632, .f32⟩
  | .hbm, ⟨36, _⟩ => ⟨S5632x2048, .f32⟩
  | .hbm, ⟨37, _⟩ => ⟨S32768x2048, .f32⟩
  | .hbm, ⟨38, _⟩ => ⟨S2048, .f32⟩
  | .hbm, ⟨39, _⟩ => ⟨S32768x2048, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | .hbm, ⟨55, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== InProjB.lean ====
abbrev S32768x2048 : Shape := ⟨2, ![32768, 2048]⟩
abbrev S2048x5632 : Shape := ⟨2, ![2048, 5632]⟩
abbrev S32768x5632 : Shape := ⟨2, ![32768, 5632]⟩
abbrev S32768x512 : Shape := ⟨2, ![32768, 512]⟩
abbrev S1024x2048 : Shape := ⟨2, ![1024, 2048]⟩
abbrev S2048x2816 : Shape := ⟨2, ![2048, 2816]⟩
abbrev S1024x2816 : Shape := ⟨2, ![1024, 2816]⟩
abbrev S1024x512 : Shape := ⟨2, ![1024, 512]⟩
abbrev S8x4096x512 : Shape := ⟨3, ![8, 4096, 512]⟩
abbrev S8x128x512 : Shape := ⟨3, ![8, 128, 512]⟩
abbrev S8x128x256 : Shape := ⟨3, ![8, 128, 256]⟩
abbrev S8x128x4x64 : Shape := ⟨4, ![8, 128, 4, 64]⟩
abbrev S1x8x128x4x64 : Shape := ⟨5, ![1, 8, 128, 4, 64]⟩

abbrev nBuf : Space → Nat
  | .hbm => 12
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .bf16⟩
  | .hbm, ⟨2, _⟩ => ⟨S32768x5632, .bf16⟩
  | .hbm, ⟨3, _⟩ => ⟨S32768x512, .f32⟩
  | .hbm, ⟨4, _⟩ => ⟨S8x4096x512, .f32⟩
  | .hbm, ⟨5, _⟩ => ⟨S8x128x512, .f32⟩
  | .hbm, ⟨6, _⟩ => ⟨S8x128x256, .f32⟩
  | .hbm, ⟨7, _⟩ => ⟨S8x128x4x64, .f32⟩
  | .hbm, ⟨8, _⟩ => ⟨S1x8x128x4x64, .f32⟩
  | .hbm, ⟨9, _⟩ => ⟨S8x128x256, .f32⟩
  | .hbm, ⟨10, _⟩ => ⟨S8x128x4x64, .f32⟩
  | .hbm, ⟨11, _⟩ => ⟨S1x8x128x4x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x2816, .bf16⟩
  | .local _ .vmem, ⟨3, _⟩ => ⟨S2048x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x512, .f32⟩
  | .local _ .vmem, ⟨7, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c1_i32 : BitVec 32 := 1#32
  let v5 : BitVec 1 := Scalar.cmpi .eq arg1 c1_i32
  let v6 : BitVec 32 := Scalar.extui v5
  let c0_i32 : BitVec 32 := 0#32
  let v7 : BitVec 1 := Scalar.cmpi .ne v6 c0_i32
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== InProjBRefIdeal.lean ====
abbrev S32768x2048 : Shape := ⟨2, ![32768, 2048]⟩
abbrev S2048x5632 : Shape := ⟨2, ![2048, 5632]⟩
abbrev S32768x5632 : Shape := ⟨2, ![32768, 5632]⟩
abbrev S32768x256 : Shape := ⟨2, ![32768, 256]⟩
abbrev S8x4096x4x64 : Shape := ⟨4, ![8, 4096, 4, 64]⟩
abbrev S8x128x4x64 : Shape := ⟨4, ![8, 128, 4, 64]⟩
abbrev S1x8x128x4x64 : Shape := ⟨5, ![1, 8, 128, 4, 64]⟩

abbrev nBuf : Space → Nat
  | .hbm => 14
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .bf16⟩
  | .hbm, ⟨2, _⟩ => ⟨S32768x2048, .f32⟩
  | .hbm, ⟨3, _⟩ => ⟨S2048x5632, .f32⟩
  | .hbm, ⟨4, _⟩ => ⟨S32768x5632, .f32⟩
  | .hbm, ⟨5, _⟩ => ⟨S32768x256, .f32⟩
  | .hbm, ⟨6, _⟩ => ⟨S32768x256, .f32⟩
  | .hbm, ⟨7, _⟩ => ⟨S8x4096x4x64, .f32⟩
  | .hbm, ⟨8, _⟩ => ⟨S8x4096x4x64, .f32⟩
  | .hbm, ⟨9, _⟩ => ⟨S8x128x4x64, .f32⟩
  | .hbm, ⟨10, _⟩ => ⟨S8x128x4x64, .f32⟩
  | .hbm, ⟨11, _⟩ => ⟨S32768x5632, .bf16⟩
  | .hbm, ⟨12, _⟩ => ⟨S1x8x128x4x64, .f32⟩
  | .hbm, ⟨13, _⟩ => ⟨S1x8x128x4x64, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Merge.lean ====
abbrev S512x2048 : Shape := ⟨2, ![512, 2048]⟩
abbrev S512x1024 : Shape := ⟨2, ![512, 1024]⟩
abbrev S512x6144 : Shape := ⟨2, ![512, 6144]⟩
abbrev S512x5632 : Shape := ⟨2, ![512, 5632]⟩
abbrev S1024x2048 : Shape := ⟨2, ![1024, 2048]⟩
abbrev S2048x2048 : Shape := ⟨2, ![2048, 2048]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x1024, .bf16⟩
  | .hbm, ⟨2, _⟩ => ⟨S512x2048, .bf16⟩
  | .hbm, ⟨3, _⟩ => ⟨S512x6144, .bf16⟩
  | .hbm, ⟨4, _⟩ => ⟨S512x5632, .bf16⟩
  | .hbm, ⟨5, _⟩ => ⟨S1024x2048, .bf16⟩
  | .hbm, ⟨6, _⟩ => ⟨S2048x2048, .bf16⟩
  | .hbm, ⟨7, _⟩ => ⟨S2048x2048, .bf16⟩
  | .hbm, ⟨8, _⟩ => ⟨S1x2048, .f32⟩
  | .hbm, ⟨9, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S1024x2048, .bf16⟩
  | .local _ .vmem, ⟨13, _⟩ => ⟨S2048x2048, .bf16⟩
  | .local _ .vmem, ⟨14, _⟩ => ⟨S2048x2048, .bf16⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S512x2048 : Shape := ⟨2, ![512, 2048]⟩
abbrev S512x1024 : Shape := ⟨2, ![512, 1024]⟩
abbrev S512x6144 : Shape := ⟨2, ![512, 6144]⟩
abbrev S512x5632 : Shape := ⟨2, ![512, 5632]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S512 : Shape := ⟨1, ![512]⟩
abbrev S512x1 : Shape := ⟨2, ![512, 1]⟩

abbrev nBuf : Space → Nat
  | .hbm => 69
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x1024, .bf16⟩
  | .hbm, ⟨2, _⟩ => ⟨S512x2048, .bf16⟩
  | .hbm, ⟨3, _⟩ => ⟨S512x6144, .bf16⟩
  | .hbm, ⟨4, _⟩ => ⟨S512x5632, .bf16⟩
  | .hbm, ⟨5, _⟩ => ⟨S1024x2048, .bf16⟩
  | .hbm, ⟨6, _⟩ => ⟨S2048x2048, .bf16⟩
  | .hbm, ⟨7, _⟩ => ⟨S2048x2048, .bf16⟩
  | .hbm, ⟨8, _⟩ => ⟨S1x2048, .f32⟩
  | .hbm, ⟨9, _⟩ => ⟨S512x1024, .f32⟩
  | .hbm, ⟨10, _⟩ => ⟨S512x2048, .f32⟩
  | .hbm, ⟨11, _⟩ => ⟨S512x6144, .f32⟩
  | .hbm, ⟨12, _⟩ => ⟨S512x5632, .f32⟩
  | .hbm, ⟨13, _⟩ => ⟨S1024x2048, .f32⟩
  | .hbm, ⟨14, _⟩ => ⟨S2048x2048, .f32⟩
  | .hbm, ⟨15, _⟩ => ⟨S2048x2048, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S512x2048, .f32⟩
  | .hbm, ⟨41, _⟩ => ⟨S_, .f32⟩
  | .hbm, ⟨42, _⟩ => ⟨S512x2048, .f32⟩
  | .hbm, ⟨43, _⟩ => ⟨S512x2048, .f32⟩
  | .hbm, ⟨44, _⟩ => ⟨S_, .f32⟩
  | .hbm, ⟨45, _⟩ => ⟨S512x2048, .f32⟩
  | .hbm, ⟨46, _⟩ => ⟨S512x2048, .f32⟩
  | .hbm, ⟨47, _⟩ => ⟨S512x2048, .f32⟩
  | .hbm, ⟨48, _⟩ => ⟨S512x2048, .f32⟩
  | .hbm, ⟨49, _⟩ => ⟨S512x2048, .f32⟩
  | .hbm, ⟨50, _⟩ => ⟨S512x2048, .f32⟩
  | .hbm, ⟨51, _⟩ => ⟨S2048, .f32⟩
  | .hbm, ⟨52, _⟩ => ⟨S512x2048, .f32⟩
  | .hbm, ⟨53, _⟩ => ⟨S_, .f32⟩
  | .hbm, ⟨54, _⟩ => ⟨S512, .f32⟩
  | .hbm, ⟨55, _⟩ => ⟨S512x1, .f32⟩
  | .hbm, ⟨56, _⟩ => ⟨S_, .f32⟩
  | .hbm, ⟨57, _⟩ => ⟨S512x1, .f32⟩
  | .hbm, ⟨58, _⟩ => ⟨S512x1, .f32⟩
  | .hbm, ⟨59, _⟩ => ⟨S_, .f32⟩
  | .hbm, ⟨60, _⟩ => ⟨S512x1, .f32⟩
  | .hbm, ⟨61, _⟩ => ⟨S512x1, .f32⟩
  | .hbm, ⟨62, _⟩ => ⟨S512x1, .f32⟩
  | .hbm, ⟨63, _⟩ => ⟨S512x2048, .f32⟩
  | .hbm, ⟨64, _⟩ => ⟨S512x2048, .f32⟩
  | .hbm, ⟨65, _⟩ => ⟨S1x2048, .f32⟩
  | .hbm, ⟨66, _⟩ => ⟨S512x2048, .f32⟩
  | .hbm, ⟨67, _⟩ => ⟨S512x2048, .f32⟩
  | .hbm, ⟨68, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== InProjA.lean ====
abbrev S32768x2048 : Shape := ⟨2, ![32768, 2048]⟩
abbrev S1x2048 : Shape := ⟨2, ![1, 2048]⟩
abbrev S2048x6144 : Shape := ⟨2, ![2048, 6144]⟩
abbrev S32768x6144 : Shape := ⟨2, ![32768, 6144]⟩
abbrev S1024x2048 : Shape := ⟨2, ![1024, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x6144, .bf16⟩
  | .hbm, ⟨3, _⟩ => ⟨S32768x6144, .bf16⟩
  | .hbm, ⟨4, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjARefIdeal.lean ====
abbrev S32768x2048 : Shape := ⟨2, ![32768, 2048]⟩
abbrev S1x2048 : Shape := ⟨2, ![1, 2048]⟩
abbrev S2048x6144 : Shape := ⟨2, ![2048, 6144]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x6144 : Shape := ⟨2, ![32768, 6144]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x6144, .bf16⟩
  | .hbm, ⟨3, _⟩ => ⟨S2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x6144, .f32⟩
  | .hbm, ⟨21, _⟩ => ⟨S32768x6144, .f32⟩
  | .hbm, ⟨22, _⟩ => ⟨S32768x6144, .bf16⟩
  | .hbm, ⟨23, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Ple.lean ====
abbrev S32768x2048 : Shape := ⟨2, ![32768, 2048]⟩
abbrev S32768x256 : Shape := ⟨2, ![32768, 256]⟩
abbrev S1x2048 : Shape := ⟨2, ![1, 2048]⟩
abbrev S2048x2048 : Shape := ⟨2, ![2048, 2048]⟩
abbrev S256x2048 : Shape := ⟨2, ![256, 2048]⟩
abbrev S1024x2048 : Shape := ⟨2, ![1024, 2048]⟩
abbrev S1024x256 : Shape := ⟨2, ![1024, 256]⟩
abbrev S256 : Shape := ⟨1, ![256]⟩
abbrev S256x1 : Shape := ⟨2, ![256, 1]⟩
abbrev S256x256 : Shape := ⟨2, ![256, 256]⟩

abbrev nBuf : Space → Nat
  | .hbm => 6
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S1x2048, .f32⟩
  | .hbm, ⟨3, _⟩ => ⟨S2048x2048, .bf16⟩
  | .hbm, ⟨4, _⟩ => ⟨S256x2048, .bf16⟩
  | .hbm, ⟨5, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x256, .f32⟩
  | .local _ .vmem, ⟨3, _⟩ => ⟨S1024x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1024x2048, .f32⟩
  | .local _ .vmem, ⟨8, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S32768x2048 : Shape := ⟨2, ![32768, 2048]⟩
abbrev S32768x256 : Shape := ⟨2, ![32768, 256]⟩
abbrev S1x2048 : Shape := ⟨2, ![1, 2048]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S32768 : Shape := ⟨1, ![32768]⟩
abbrev S32768x1 : Shape := ⟨2, ![32768, 1]⟩

abbrev nBuf : Space → Nat
  | .hbm => 36
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S1x2048, .f32⟩
  | .hbm, ⟨3, _⟩ => ⟨S2048x2048, .bf16⟩
  | .hbm, ⟨4, _⟩ => ⟨S256x2048, .bf16⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.Alg.lean ====
/- Facts about the extended reals and the constants of the attention and the retention, free of any program. -/
module

public import Idealize.ShloMosaic.Lib.Pipeline.ValueKit

@[expose] public section

set_option maxRecDepth 16384

noncomputable section

namespace Cert.Alg

open Idealize.ShloMosaic

/-- A real number, as an extended real. -/
def IsReal (x : EReal) : Prop := ∃ r : ℝ, x = (r : EReal)

/-- A sum of two real numbers is one. -/
theorem IsReal.add {x y : EReal} (hx : IsReal x) (hy : IsReal y) : IsReal (x + y) := by
  obtain ⟨a, rfl⟩ := hx; obtain ⟨b, rfl⟩ := hy; exact ⟨a + b, by push_cast; rfl⟩
/-- So is a difference, -/
theorem IsReal.sub {x y : EReal} (hx : IsReal x) (hy : IsReal y) : IsReal (x - y) := by
  obtain ⟨a, rfl⟩ := hx; obtain ⟨b, rfl⟩ := hy; exact ⟨a - b, by push_cast; rfl⟩
/-- a product, -/
theorem IsReal.mul {x y : EReal} (hx : IsReal x) (hy : IsReal y) : IsReal (x * y) := by
  obtain ⟨a, rfl⟩ := hx; obtain ⟨b, rfl⟩ := hy; exact ⟨a * b, by push_cast; rfl⟩
/-- and a finite sum. -/
theorem IsReal.sum {n : ℕ} {f : Fin n → EReal} (h : ∀ k, IsReal (f k)) : IsReal (∑ k, f k) := by
  choose g hg using h
  refine ⟨∑ k, g k, ?_⟩
  simp only [hg]
  have key : ∀ S : Finset (Fin n), ∑ k ∈ S, (g k : EReal) = ((∑ k ∈ S, g k : ℝ) : EReal) := by
    intro S
    induction S using Finset.induction_on with
    | empty => simp
    | insert a S ha ih => rw [Finset.sum_insert ha, Finset.sum_insert ha, ih, EReal.coe_add]
  exact key Finset.univ
/-- A real number is one. -/
theorem IsReal.coe (r : ℝ) : IsReal (r : EReal) := ⟨r, rfl⟩

/-- A magnitude below infinity is a real number's. -/
theorem IsReal.of_abs {x : EReal} (h : max x (-x) < ⊤) : IsReal x := by
  induction x with
  | bot => simp at h
  | top => simp at h
  | coe r => exact ⟨r, rfl⟩

/-- The exponential is not negative. -/
theorem exp_nonneg (x : EReal) : 0 ≤ Ideal.exp x := by
  induction x with
  | bot => exact le_refl (0 : EReal)
  | top => exact le_top (α := EReal)
  | coe r => rw [Ideal.exp_coe]; exact_mod_cast (Real.exp_pos r).le

/-- The maximum of real numbers and a real number is real. -/
theorem fold_max_ne_top {n : ℕ} {s : Fin n → EReal} (hs : ∀ k, IsReal (s k)) : Finset.univ.fold max (⊥ : EReal) s ≠ ⊤ := by
  rw [← lt_top_iff_ne_top, Finset.fold_max_lt]
  exact ⟨bot_lt_top, fun k _ => by obtain ⟨r, hr⟩ := hs k; rw [hr]; exact EReal.coe_lt_top r⟩

/-- Dividing every weight by their sum and dividing the weighted sum by it agree: the sum of the weights is not zero
    where the sink is real and no score is infinite. -/
theorem softmax_div {n : ℕ} (s v : Fin n → EReal) (sink : EReal) (hs : ∀ k, IsReal (s k)) (hk : IsReal sink) :
    (∑ k, v k * Ideal.exp (s k - max (Finset.univ.fold max (⊥ : EReal) s) sink))
        * Ideal.div 1 ((∑ k, Ideal.exp (s k - max (Finset.univ.fold max (⊥ : EReal) s) sink))
          + Ideal.exp (sink - max (Finset.univ.fold max (⊥ : EReal) s) sink))
      = ∑ k, v k * Ideal.div (Ideal.exp (s k - max (Finset.univ.fold max (⊥ : EReal) s) sink))
          ((∑ k, Ideal.exp (s k - max (Finset.univ.fold max (⊥ : EReal) s) sink))
            + Ideal.exp (sink - max (Finset.univ.fold max (⊥ : EReal) s) sink)) := by
  have hm := fold_max_ne_top hs
  generalize Finset.univ.fold max (⊥ : EReal) s = M at hm
  obtain ⟨r, rfl⟩ := hk
  have hpos : 0 < Ideal.exp ((r : EReal) - max M r) := by
    have h2 : max M (r : EReal) ≠ ⊤ := by simp [hm]
    have h3 : max M (r : EReal) ≠ ⊥ := by simp
    lift max M (r : EReal) to ℝ using ⟨h2, h3⟩ with w
    rw [← EReal.coe_sub, Ideal.exp_coe]
    exact_mod_cast Real.exp_pos _
  have hd : (∑ k, Ideal.exp (s k - max M r)) + Ideal.exp ((r : EReal) - max M r) ≠ 0 :=
    (lt_of_lt_of_le hpos (le_add_of_nonneg_left (Finset.sum_nonneg fun k _ => exp_nonneg _))).ne'
  have h0 : 0 ≤ (∑ k, Ideal.exp (s k - max M r)) + Ideal.exp ((r : EReal) - max M r) :=
    add_nonneg (Finset.sum_nonneg fun k _ => exp_nonneg _) (exp_nonneg _)
  generalize (∑ k, Ideal.exp (s k - max M r)) + Ideal.exp ((r : EReal) - max M r) = d at hd h0
  simp only [Ideal.div, if_neg hd, one_mul]
  have hi : 0 ≤ d⁻¹ := EReal.inv_nonneg_of_nonneg h0
  have ht : d⁻¹ ≠ ⊤ := by
    induction d with
    | bot => simp
    | top => simp
    | coe x => rw [← EReal.coe_inv]; exact EReal.coe_ne_top _
  have key : ∀ S : Finset (Fin n), (∑ k ∈ S, v k * Ideal.exp (s k - max M r)) * d⁻¹ = ∑ k ∈ S, v k * (Ideal.exp (s k - max M r) * d⁻¹) := by
    intro S
    induction S using Finset.induction_on with
    | empty => simp
    | insert a S ha ih => rw [Finset.sum_insert ha, Finset.sum_insert ha, EReal.right_distrib_of_nonneg_of_ne_top hi ht, ih, mul_assoc]
  exact key Finset.univ

/-- A real factor that is not negative leaves a sum. -/
theorem sum_mul_coe {n : ℕ} (f : Fin n → EReal) {c : ℝ} (hc : 0 ≤ c) : (∑ k, f k) * (c : EReal) = ∑ k, f k * (c : EReal) := by
  have key : ∀ S : Finset (Fin n), (∑ k ∈ S, f k) * (c : EReal) = ∑ k ∈ S, f k * (c : EReal) := by
    intro S
    induction S using Finset.induction_on with
    | empty => simp
    | insert a S ha ih =>
      rw [Finset.sum_insert ha, Finset.sum_insert ha, EReal.right_distrib_of_nonneg_of_ne_top (by exact_mod_cast hc) (EReal.coe_ne_top c), ih]
  exact key Finset.univ

/-- The reciprocal of a root of a power of two, as a power of two. -/
theorem inv_sqrt_two_pow (n : ℕ) : (Real.sqrt ((2 : ℝ) ^ n))⁻¹ = (2 : ℝ) ^ (-(n : ℝ) / 2) := by
  rw [Real.sqrt_eq_rpow, ← Real.rpow_natCast, ← Real.rpow_mul (by norm_num), ← Real.rpow_neg (by norm_num)]
  congr 1; ring

/-- `e` to `n` times a positive number's logarithm is its `n`-th power. -/
theorem exp_log_mul {x : ℝ} (hx : 0 < x) (n : ℕ) : Real.exp (Real.log x * n) = x ^ n := by
  rw [Real.exp_mul, Real.exp_log hx, Real.rpow_natCast]

/-- Head `h`'s slope. -/
def slope (h : ℕ) : ℝ := (2 : ℝ) ^ (-((h : ℝ) + 1) / 2)

/-- Head `h`'s decay's logarithm. -/
def lg (h : ℕ) : ℝ := Real.log (1 - (2 : ℝ) ^ (-5 - (h : ℝ)))

/-- An even head's slope, as its named constant has it. -/
theorem slope_even (n : ℕ) : -(Real.sqrt ((2 : ℝ) ^ (n + 1)))⁻¹ = -slope n := by
  rw [inv_sqrt_two_pow, slope]; push_cast; rfl

/-- An odd head's slope is a power of two. -/
theorem slope_odd (n : ℕ) : slope (2 * n + 1) = ((2 : ℝ) ^ (n + 1))⁻¹ := by
  rw [slope, ← Real.rpow_natCast, ← Real.rpow_neg (by norm_num)]
  congr 1; push_cast; ring

/-- A head's log decay, as its named constant has it. -/
theorem lg_eq (h : ℕ) : lg h = Real.log (((2 : ℝ) ^ (5 + h) - 1) / 2 ^ (5 + h)) := by
  have : (2 : ℝ) ^ (-5 - (h : ℝ)) = ((2 : ℝ) ^ (5 + h))⁻¹ := by
    rw [← Real.rpow_natCast, ← Real.rpow_neg (by norm_num)]; congr 1; push_cast; ring
  rw [lg, this, sub_div, div_self (by positivity), one_div]

/-- A head's decay over 32 tokens. -/
theorem exp_lg (h n : ℕ) : Real.exp (lg h * n) = (((2 : ℝ) ^ (5 + h) - 1) / 2 ^ (5 + h)) ^ n := by
  have h1 : (1 : ℝ) < 2 ^ (5 + h) := one_lt_pow₀ (by norm_num) (by omega)
  rw [lg_eq, exp_log_mul (by apply div_pos <;> linarith) n]

/-- The reference's slope at a head. -/
theorem pow_slope (h : ℕ) : Ideal.pow ((2 : ℝ) : EReal) (Ideal.div (((-8 : ℝ) : EReal) * (((h : ℝ) : EReal) + ((1 : ℝ) : EReal))) ((16 : ℝ) : EReal)) = (slope h : EReal) := by
  rw [Ideal.div_coe (by norm_num), ← EReal.coe_add, ← EReal.coe_mul, ← EReal.coe_mul]
  have h1 : (-8 : ℝ) * ((h : ℝ) + 1) * (1 / 16) = -((h : ℝ) + 1) / 2 := by ring
  rw [h1]
  rfl

/-- The reference's logarithm of a head's decay. -/
theorem log_lg (h : ℕ) : Ideal.log (((1 : ℝ) : EReal) - Ideal.pow ((2 : ℝ) : EReal) (((-5 : ℝ) : EReal) - ((h : ℝ) : EReal))) = (lg h : EReal) := by
  rw [← EReal.coe_sub]
  show Ideal.log (((1 : ℝ) : EReal) - ((Real.rpow 2 _ : ℝ) : EReal)) = _
  rw [← EReal.coe_sub]
  have h1 : (2 : ℝ) ^ (-5 - (h : ℝ)) < 1 := Real.rpow_lt_one_of_one_lt_of_neg (by norm_num) (by have : (0 : ℝ) ≤ h := Nat.cast_nonneg h; linarith)
  show (if (1 : ℝ) - Real.rpow 2 (-5 - (h : ℝ)) ≤ 0 then (⊥ : EReal) else _) = _
  rw [if_neg (by have h2 : Real.rpow 2 (-5 - (h : ℝ)) < 1 := h1; linarith)]
  rfl

end Cert.Alg

end

end
-- ==== Proof.Spec.lean ====
/- What the attention and the retention of a block of 32 tokens are, as functions of the projections, the caches and
   the state, on entries named by natural numbers; no program's. -/
module

public import proofs.«01_k».proof.Proof.Alg

@[expose] public section

set_option maxRecDepth 16384

noncomputable section

namespace Cert.Spec

open Idealize.ShloMosaic Cert.Alg

/-- A vector's entry; zero outside it. -/
def at1 {a : ℕ} (f : (⟨1, ![a]⟩ : Shape).Idx → EReal) (i : ℕ) : EReal := if h : i < a then f (ix1 ⟨i, h⟩) else 0
/-- A matrix's entry; zero outside it. -/
def at2 {a b : ℕ} (f : (⟨2, ![a, b]⟩ : Shape).Idx → EReal) (i j : ℕ) : EReal := if h : i < a ∧ j < b then f (ix2 ⟨i, h.1⟩ ⟨j, h.2⟩) else 0
/-- An entry of an array of three axes; zero outside it. -/
def at3 {a b c : ℕ} (f : (⟨3, ![a, b, c]⟩ : Shape).Idx → EReal) (i j k : ℕ) : EReal :=
  if h : i < a ∧ j < b ∧ k < c then f (ix3 ⟨i, h.1⟩ ⟨j, h.2.1⟩ ⟨k, h.2.2⟩) else 0
/-- An entry of an array of four axes; zero outside it. -/
def at4 {a b c d : ℕ} (f : (⟨4, ![a, b, c, d]⟩ : Shape).Idx → EReal) (i j k l : ℕ) : EReal :=
  if h : i < a ∧ j < b ∧ k < c ∧ l < d then f (ix4 ⟨i, h.1⟩ ⟨j, h.2.1⟩ ⟨k, h.2.2.1⟩ ⟨l, h.2.2.2⟩) else 0

/-- An array of one axis at an index. -/
theorem at1_ix {a : ℕ} (f : (⟨1, ![a]⟩ : Shape).Idx → EReal) (i : Fin a) : f (ix1 i) = at1 f i.val := by
  unfold at1; rw [dif_pos i.isLt]
/-- An array of two axes at an index. -/
theorem at2_ix {a b : ℕ} (f : (⟨2, ![a, b]⟩ : Shape).Idx → EReal) (i : Fin a) (j : Fin b) : f (ix2 i j) = at2 f i.val j.val := by
  unfold at2; rw [dif_pos ⟨i.isLt, j.isLt⟩]
/-- An array of three axes at an index. -/
theorem at3_ix {a b c : ℕ} (f : (⟨3, ![a, b, c]⟩ : Shape).Idx → EReal) (i : Fin a) (j : Fin b) (k : Fin c) :
    f (ix3 i j k) = at3 f i.val j.val k.val := by
  unfold at3; rw [dif_pos ⟨i.isLt, j.isLt, k.isLt⟩]
/-- An array of four axes at an index. -/
theorem at4_ix {a b c d : ℕ} (f : (⟨4, ![a, b, c, d]⟩ : Shape).Idx → EReal) (i : Fin a) (j : Fin b) (k : Fin c) (l : Fin d) :
    f (ix4 i j k l) = at4 f i.val j.val k.val l.val := by
  unfold at4; rw [dif_pos ⟨i.isLt, j.isLt, k.isLt, l.isLt⟩]

/-- An array of four axes at an index that is not taken apart. -/
theorem at4_idx {a b c d : ℕ} (f : (⟨4, ![a, b, c, d]⟩ : Shape).Idx → EReal) (x : (⟨4, ![a, b, c, d]⟩ : Shape).Idx) :
    f x = at4 f (x 0).val (x 1).val (x 2).val (x 3).val := by
  rw [← at4_ix f (x 0) (x 1) (x 2) (x 3)]
  congr 1; funext i; fin_cases i <;> rfl

/-- Zero is a real number. -/
theorem IsReal.zero : IsReal 0 := ⟨0, rfl⟩
/-- An array of real numbers has real entries, zero outside it; here with one axis, -/
theorem at1_real {a : ℕ} {f : (⟨1, ![a]⟩ : Shape).Idx → EReal} (h : ∀ x, IsReal (f x)) (i : ℕ) : IsReal (at1 f i) := by
  unfold at1; split
  · exact h _
  · exact IsReal.zero
/-- and with three. -/
theorem at3_real {a b c : ℕ} {f : (⟨3, ![a, b, c]⟩ : Shape).Idx → EReal} (h : ∀ x, IsReal (f x)) (i j k : ℕ) : IsReal (at3 f i j k) := by
  unfold at3; split
  · exact h _
  · exact IsReal.zero

/-- The distance of query `q` (its position is 128 + q) from key `k`. -/
def gap (q k : ℕ) : ℕ := ((128 + q : ℤ) - k).natAbs

/-- The words of the numbers below 160, -/
theorem toInt_small : ∀ n : Fin 160, (BitVec.ofNat 32 n.val).toInt = n.val := by decide +kernel
/-- of two tokens' difference, -/
theorem toInt_diff : ∀ i j : Fin 32, (IntOp.subi (BitVec.ofNat 32 i.val) (BitVec.ofNat 32 j.val)).toInt = (i.val : ℤ) - j.val := by decide +kernel
/-- and of the distance of a query from a key. -/
theorem toInt_dist : ∀ (q : Fin 32) (k : Fin 160),
    (IntOp.absi (IntOp.subi (IntOp.addi (BitVec.ofNat 32 q.val) 128#32) (BitVec.ofNat 32 k.val))).toInt = gap q.val k.val := by decide +kernel

/-- A key's or a query's number, read as a float. -/
theorem sitofp_small (n : ℕ) (h : n < 160) : (FloatOps.sitofp (F := Ideal) FTy.f32 (BitVec.ofNat 32 n) : EReal) = ((n : ℝ) : EReal) := by
  show (((BitVec.ofNat 32 n).toInt : ℝ) : EReal) = _
  rw [toInt_small ⟨n, h⟩]; simp
/-- A token's difference as a float. -/
theorem sitofp_diff (i j : ℕ) (hi : i < 32) (hj : j < 32) :
    (FloatOps.sitofp (F := Ideal) FTy.f32 (IntOp.subi (BitVec.ofNat 32 i) (BitVec.ofNat 32 j)) : EReal) = (((i : ℝ) - j : ℝ) : EReal) := by
  show (((IntOp.subi (BitVec.ofNat 32 i) (BitVec.ofNat 32 j)).toInt : ℝ) : EReal) = _
  rw [toInt_diff ⟨i, hi⟩ ⟨j, hj⟩]; simp
/-- The distance of a query from a key as a float. -/
theorem sitofp_gap (q k : ℕ) (hq : q < 32) (hk : k < 160) :
    (FloatOps.sitofp (F := Ideal) FTy.f32 (IntOp.absi (IntOp.subi (IntOp.addi (BitVec.ofNat 32 q) 128#32) (BitVec.ofNat 32 k))) : EReal)
      = ((gap q k : ℝ) : EReal) := by
  show (((IntOp.absi (IntOp.subi (IntOp.addi (BitVec.ofNat 32 q) 128#32) (BitVec.ofNat 32 k))).toInt : ℝ) : EReal) = _
  rw [toInt_dist ⟨q, hq⟩ ⟨k, hk⟩]; simp

/-- The retention's scale, 128 to the power -1/2 as single precision holds it. -/
def scale : ℝ := 11863283 / 134217728
/-- The float word of the retention's scale. -/
theorem ofBits_scale : Ideal.ofBits FTy.f32 1035273459#32 = (scale : EReal) := by
  simp [Ideal.ofBits, Ideal.ieee, scale]; rw [← EReal.coe_mul]; norm_num
/-- The float word of 31. -/
theorem ofBits_31 : Ideal.ofBits FTy.f32 1106771968#32 = ((31 : ℝ) : EReal) := by
  simp [Ideal.ofBits, Ideal.ieee]; rw [← EReal.coe_mul]; norm_num
/-- The scale is not negative. -/
theorem scale_nonneg : 0 ≤ scale := by rw [scale]; norm_num

/-- The decay between tokens `i` and `j` of a block. -/
def decay (h i j : ℕ) : ℝ := if j ≤ i then Real.exp (lg h * (i - j)) else 0
/-- The decay between two tokens, as it is computed from their difference. -/
theorem decay_value (h i j : ℕ) :
    (if (0 : EReal) ≤ (((i : ℝ) - j : ℝ) : EReal) then Ideal.exp ((lg h : EReal) * max (((i : ℝ) - j : ℝ) : EReal) 0) else 0) = ((decay h i j : ℝ) : EReal) := by
  rw [decay]
  by_cases hij : j ≤ i
  · have h1 : (0 : ℝ) ≤ (i : ℝ) - j := by have : (j : ℝ) ≤ i := by exact_mod_cast hij
                                          linarith
    rw [if_pos (by exact_mod_cast h1), if_pos hij, max_eq_left (by exact_mod_cast h1), ← EReal.coe_mul, Ideal.exp_coe]
  · have h1 : ¬(0 : ℝ) ≤ (i : ℝ) - j := by have : (i : ℝ) < j := by exact_mod_cast (not_le.mp hij)
                                           linarith
    rw [if_neg (by exact_mod_cast h1), if_neg hij]; rfl

/-- An entry of the decay table, as it is computed. -/
theorem decay_entry (h i j : ℕ) (hi : i < 32) (hj : j < 32) :
    (if (0 : EReal) ≤ FloatOps.sitofp (F := Ideal) FTy.f32 (IntOp.subi (BitVec.ofNat 32 i) (BitVec.ofNat 32 j)) then
      Ideal.exp ((lg h : EReal) * max (FloatOps.sitofp (F := Ideal) FTy.f32 (IntOp.subi (BitVec.ofNat 32 i) (BitVec.ofNat 32 j))) 0) else 0)
      = ((decay h i j : ℝ) : EReal) := by
  rw [sitofp_diff i j hi hj]
  exact decay_value h i j

/-- The state's decay at a token, as it is computed. -/
theorem cross_value (h i : ℕ) : Ideal.exp ((lg h : EReal) * (((i : ℝ) : EReal) + 1)) = ((Real.exp (lg h * ((i : ℝ) + 1)) : ℝ) : EReal) := by
  rw [← EReal.coe_one, ← EReal.coe_add, ← EReal.coe_mul, Ideal.exp_coe]

/-- A token's decay to the block's end, as it is computed. -/
theorem rest_value (h i : ℕ) :
    Ideal.exp ((lg h : EReal) * (((31 : ℝ) : EReal) - ((i : ℝ) : EReal))) = ((Real.exp (lg h * (31 - (i : ℝ))) : ℝ) : EReal) := by
  rw [← EReal.coe_sub, ← EReal.coe_mul, Ideal.exp_coe]

/-- The float word of minus infinity. -/
theorem ofBits_neg_inf : Ideal.ofBits FTy.f32 4286578688#32 = ⊥ := by simp [Ideal.ofBits, Ideal.ieee]
/-- The float word of 1/8. -/
theorem ofBits_eighth : Ideal.ofBits FTy.f32 1040187392#32 = ((1 / 8 : ℝ) : EReal) := by
  simp [Ideal.ofBits, Ideal.ieee]; rw [← EReal.coe_mul]; norm_num
/-- The bf16 word of 1/8. -/
theorem ofBits_eighth_half : Ideal.ofBits FTy.bf16 15872#16 = ((1 / 8 : ℝ) : EReal) := by
  simp [Ideal.ofBits, Ideal.ieee]; rw [← EReal.coe_mul]; norm_num
/-- The float word of 32. -/
theorem ofBits_32 : Ideal.ofBits FTy.f32 1107296256#32 = ((32 : ℝ) : EReal) := by
  simp [Ideal.ofBits, Ideal.ieee]; rw [← EReal.coe_mul]; norm_num
/-- The float word of 2. -/
theorem ofBits_2 : Ideal.ofBits FTy.f32 1073741824#32 = ((2 : ℝ) : EReal) := by
  simp [Ideal.ofBits, Ideal.ieee]; rw [← EReal.coe_mul]; norm_num
/-- The float word of 16. -/
theorem ofBits_16 : Ideal.ofBits FTy.f32 1098907648#32 = ((16 : ℝ) : EReal) := by
  simp [Ideal.ofBits, Ideal.ieee]; rw [← EReal.coe_mul]; norm_num
/-- The float word of -8. -/
theorem ofBits_neg_8 : Ideal.ofBits FTy.f32 3238002688#32 = ((-8 : ℝ) : EReal) := by
  simp [Ideal.ofBits, Ideal.ieee]; rw [← EReal.coe_mul]; norm_num
/-- The float word of -5. -/
theorem ofBits_neg_5 : Ideal.ofBits FTy.f32 3231711232#32 = ((-5 : ℝ) : EReal) := by
  simp [Ideal.ofBits, Ideal.ieee]; rw [← EReal.coe_mul]; norm_num

section

variable (pa : (⟨2, ![512, 6144]⟩ : Shape).Idx → EReal) (pb : (⟨2, ![512, 5632]⟩ : Shape).Idx → EReal) (sk : (⟨1, ![16]⟩ : Shape).Idx → EReal)
  (ck cv : (⟨3, ![16, 128, 256]⟩ : Shape).Idx → EReal) (st : (⟨4, ![16, 8, 128, 256]⟩ : Shape).Idx → EReal)

/-- The softmax with a sink of the scores `s`, applied to the values `v`. -/
def weighted {n : ℕ} (s v : Fin n → EReal) (sink : EReal) : EReal :=
  ∑ k, v k * Ideal.div (Ideal.exp (s k - max (Finset.univ.fold max (⊥ : EReal) s) sink))
    ((∑ k, Ideal.exp (s k - max (Finset.univ.fold max (⊥ : EReal) s) sink)) + Ideal.exp (sink - max (Finset.univ.fold max (⊥ : EReal) s) sink))

/-- The weighted mean over 160 keys, in two sums. -/
theorem weighted_split (s v : ℕ → EReal) (sink : EReal) :
    weighted (fun k : Fin 160 => s k.val) (fun k : Fin 160 => v k.val) sink
      = (∑ k : Fin 128, v k.val * Ideal.div (Ideal.exp (s k.val - max (Finset.univ.fold max (⊥ : EReal) fun k : Fin 160 => s k.val) sink))
          ((∑ k : Fin 160, Ideal.exp (s k.val - max (Finset.univ.fold max (⊥ : EReal) fun k : Fin 160 => s k.val) sink))
            + Ideal.exp (sink - max (Finset.univ.fold max (⊥ : EReal) fun k : Fin 160 => s k.val) sink)))
        + ∑ k : Fin 32, v (128 + k.val) * Ideal.div (Ideal.exp (s (128 + k.val) - max (Finset.univ.fold max (⊥ : EReal) fun k : Fin 160 => s k.val) sink))
          ((∑ k : Fin 160, Ideal.exp (s k.val - max (Finset.univ.fold max (⊥ : EReal) fun k : Fin 160 => s k.val) sink))
            + Ideal.exp (sink - max (Finset.univ.fold max (⊥ : EReal) fun k : Fin 160 => s k.val) sink)) :=
  Fin.sum_univ_add (a := 128) (b := 32) _

/-- Batch `b`'s key `k`, column `j`: the cache's 128 tokens, then the block's 32. -/
def key (b k j : ℕ) : EReal := if k < 128 then at3 ck b k j else at2 pb (b * 32 + (k - 128)) (5120 + j)
/-- Batch `b`'s value `k`, column `j`. -/
def val (b k j : ℕ) : EReal := if k < 128 then at3 cv b k j else at2 pb (b * 32 + (k - 128)) (5376 + j)
/-- A cached key's value. -/
theorem val_cache (b k j : ℕ) (h : k < 128) : val pb cv b k j = at3 cv b k j := by rw [val, if_pos h]
/-- A block's token's value. -/
theorem val_block (b k j : ℕ) : val pb cv b (128 + k) j = at2 pb (b * 32 + k) (5376 + j) := by
  rw [val, if_neg (by omega), Nat.add_sub_cancel_left]
/-- Head `h`'s score of query `q` and key `k`. -/
def score (b h q k : ℕ) : EReal :=
  (∑ d : Fin 64, key pb ck b k (h / 4 * 64 + d.val) * at2 pb (b * 32 + q) (2048 + (h * 64 + d.val))) * ((1 / 8 : ℝ) : EReal)
    + ((-slope h * gap q k : ℝ) : EReal)
/-- Head `h`'s attention of query `q`, column `e`. -/
def attn (b h q e : ℕ) : EReal :=
  weighted (fun k : Fin 160 => score pb ck b h q k.val) (fun k : Fin 160 => val pb cv b k.val (h / 4 * 64 + e)) (at1 sk h)
/-- The attention: row `x 0` is batch `x 0 / 32`'s token, column `x 1` is head `x 1 / 64`'s. -/
def attention : (⟨2, ![512, 1024]⟩ : Shape).Idx → EReal := fun x =>
  attn pb sk ck cv ((x 0).val / 32) ((x 1).val / 64) ((x 0).val % 32) ((x 1).val % 64)

/-- Head `h`'s retention of token `i`, column `e`, before the normalisation: the block's tokens up to `i`, then the state. -/
def ret (b h i e : ℕ) : EReal :=
  (∑ j : Fin 32, at2 pa (b * 32 + j.val) (h * 256 + e)
      * ((∑ d : Fin 128, at2 pb (b * 32 + i) (3072 + (h * 128 + d.val)) * (at2 pb (b * 32 + j.val) (4096 + (h * 128 + d.val)) * (scale : EReal)))
        * ((decay h i j.val : ℝ) : EReal)))
    + (∑ d : Fin 128, at4 st b h d.val e * at2 pb (b * 32 + i) (3072 + (h * 128 + d.val))) * ((Real.exp (lg h * ((i : ℝ) + 1)) : ℝ) : EReal)
/-- The mean of a head's 256 columns. -/
def mean (o : ℕ → EReal) : EReal := Ideal.div (∑ i : Fin 256, o i.val) (Ideal.ofBits FTy.f32 1132462080#32)
/-- A head's columns, with mean zero and variance one. -/
def normed (o : ℕ → EReal) (e : ℕ) : EReal :=
  (o e - mean o) * Ideal.rsqrt (Ideal.div (∑ i : Fin 256, (o i.val - mean o) * (o i.val - mean o)) (Ideal.ofBits FTy.f32 1132462080#32)
    + Ideal.ofBits FTy.f32 897988541#32)
/-- The retention: row `x 0` is batch `x 0 / 32`'s token, column `x 1` is head `x 1 / 256`'s. -/
def retention : (⟨2, ![512, 2048]⟩ : Shape).Idx → EReal := fun x =>
  normed (ret pa pb st ((x 0).val / 32) ((x 1).val / 256) ((x 0).val % 32)) ((x 1).val % 256)
/-- Head `h`'s new state. -/
def newSt (b h d e : ℕ) : EReal :=
  at4 st b h d e * ((Real.exp (lg h * 32) : ℝ) : EReal)
    + ∑ j : Fin 32, at2 pb (b * 32 + j.val) (4096 + (h * 128 + d)) * (scale : EReal) * ((Real.exp (lg h * (31 - (j.val : ℝ))) : ℝ) : EReal)
        * at2 pa (b * 32 + j.val) (h * 256 + e)
/-- The state after the block. -/
def newState : (⟨4, ![16, 8, 128, 256]⟩ : Shape).Idx → EReal := fun x => newSt pa pb st (x 0).val (x 1).val (x 2).val (x 3).val

/-- What the attention needs for its value to be the reference's: the block's queries and keys, the cache's keys and the sinks are real. -/
structure Reals : Prop where
  query : ∀ i j, 2048 ≤ j → j < 3072 → IsReal (at2 pb i j)
  blockKey : ∀ i j, 5120 ≤ j → j < 5376 → IsReal (at2 pb i j)
  cacheKey : ∀ x, IsReal (ck x)
  sink : ∀ x, IsReal (sk x)

/-- Under the precondition every key is a real number. -/
theorem key_real {pb : (⟨2, ![512, 5632]⟩ : Shape).Idx → EReal} {sk : (⟨1, ![16]⟩ : Shape).Idx → EReal} {ck : (⟨3, ![16, 128, 256]⟩ : Shape).Idx → EReal}
    (R : Reals pb sk ck) (b k j : ℕ) (hj : j < 256) : IsReal (key pb ck b k j) := by
  unfold key; split
  · exact at3_real R.cacheKey _ _ _
  · exact R.blockKey _ _ (by omega) (by omega)

/-- And so is every score. -/
theorem score_real {pb : (⟨2, ![512, 5632]⟩ : Shape).Idx → EReal} {sk : (⟨1, ![16]⟩ : Shape).Idx → EReal} {ck : (⟨3, ![16, 128, 256]⟩ : Shape).Idx → EReal}
    (R : Reals pb sk ck) (b h q k : ℕ) (hh : h < 16) : IsReal (score pb ck b h q k) := by
  refine IsReal.add (IsReal.mul (IsReal.sum fun d => IsReal.mul (key_real R _ _ _ ?_) (R.query _ _ ?_ ?_)) (IsReal.coe _)) (IsReal.coe _)
  all_goals have := d.isLt; omega

end

/-- A weighted sum, divided once by the weights' sum, over scores and values that are those of the softmax. -/
theorem weighted_close {n : ℕ} {s s' v v' : Fin n → EReal} {sink sink' : EReal} (hs : ∀ k, s k = s' k) (hv : ∀ k, v k = v' k) (hk : sink = sink')
    (r : ∀ k, IsReal (s' k)) (rk : IsReal sink') :
    (∑ k, v k * Ideal.exp (s k - max (Finset.univ.fold max (⊥ : EReal) s) sink))
        * Ideal.div 1 ((∑ k, Ideal.exp (s k - max (Finset.univ.fold max (⊥ : EReal) s) sink))
          + Ideal.exp (sink - max (Finset.univ.fold max (⊥ : EReal) s) sink)) = weighted s' v' sink' := by
  obtain rfl := funext hs
  obtain rfl := funext hv
  subst hk
  exact softmax_div s v sink r rk

/-- A score whose queries carry the factor is the score that is multiplied by it. -/
theorem score_close {f f' g g' : Fin 64 → EReal} {a a' : ℝ} (hf : ∀ d, f d = f' d) (hg : ∀ d, g d = g' d) (ha : a = a') :
    (∑ d, f d * (g d * ((1 / 8 : ℝ) : EReal))) + (a : EReal) = (∑ d, f' d * g' d) * ((1 / 8 : ℝ) : EReal) + (a' : EReal) := by
  obtain rfl := funext hf
  obtain rfl := funext hg
  rw [sum_mul_coe _ (by norm_num), ha]
  simp only [mul_assoc]

/-- A sum over a head's columns is the sum over its halves. -/
theorem sum_halves (f : ℕ → EReal) : ∑ i : Fin 256, f i.val = (∑ i : Fin 128, f i.val) + ∑ i : Fin 128, f (128 + i.val) :=
  Fin.sum_univ_add (a := 128) (b := 128) fun i => f i.val

/-- The retention with the scale at the decays instead of the keys. -/
theorem ret_close {q : Fin 128 → EReal} {k : Fin 32 → Fin 128 → EReal} {v : Fin 32 → EReal} {dec : Fin 32 → ℝ} (hd : ∀ j, 0 ≤ dec j)
    {s : Fin 128 → EReal} (w : EReal) :
    (∑ j, (∑ d, q d * k j d) * ((dec j * scale : ℝ) : EReal) * v j) + (∑ d, q d * s d) * w
      = (∑ j, v j * ((∑ d, q d * (k j d * (scale : EReal))) * ((dec j : ℝ) : EReal))) + (∑ d, s d * q d) * w := by
  congr 1
  · refine Finset.sum_congr rfl fun j _ => ?_
    rw [mul_comm (dec j) scale, EReal.coe_mul, ← mul_assoc, sum_mul_coe _ scale_nonneg, mul_comm (v j)]
    simp only [mul_assoc]
  · simp only [mul_comm]

/-- The decay is not negative. -/
theorem decay_nonneg (h i j : ℕ) : 0 ≤ decay h i j := by
  unfold decay; split
  · exact (Real.exp_pos _).le
  · exact le_refl _

end Cert.Spec

end

end
-- ==== Proof.Tables.lean ====
/- The tables that the first grid point fills and every later point reads: the attention's distance bias and the
   retention's decays, each as one function of its index. -/
module

public import proofs.«01_k».proof.Proof.Gen.KernelIdeal.Frame
public import proofs.«01_k».proof.Proof.Spec
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.KernelIdeal.Result

open Cert.KernelIdeal Cert.KernelIdeal.Gen Cert.Alg Cert.Spec Idealize.ShloMosaic Idealize.ShloMosaic.TcCoe Idealize.SL.Sem

variable (m : (ℓ : Loc nD τ sig) → Buf (Elt Ideal) ℓ)

/-- A named constant is its value. -/
theorem named_value {id : String} {b : BitVec FTy.f32.bits} {v w : ℝ} (h : κ id = some (v : EReal)) (e : v = w) :
    Named.named (F := Ideal) (φ := .f32) κ id b = (w : EReal) := by
  rw [← e]; exact IdealRules.named_const.ideal_named_scalar _ _ _ _ h

/-- The heads' slopes that are named constants. -/
theorem named_alibi (b : BitVec 32) :
    Named.named (F := Ideal) (φ := .f32) κ "alibi0" b = ((-slope 0 : ℝ) : EReal) ∧ Named.named (F := Ideal) (φ := .f32) κ "alibi2" b = ((-slope 2 : ℝ) : EReal)
    ∧ Named.named (F := Ideal) (φ := .f32) κ "alibi4" b = ((-slope 4 : ℝ) : EReal) ∧ Named.named (F := Ideal) (φ := .f32) κ "alibi6" b = ((-slope 6 : ℝ) : EReal)
    ∧ Named.named (F := Ideal) (φ := .f32) κ "alibi8" b = ((-slope 8 : ℝ) : EReal) ∧ Named.named (F := Ideal) (φ := .f32) κ "alibi10" b = ((-slope 10 : ℝ) : EReal)
    ∧ Named.named (F := Ideal) (φ := .f32) κ "alibi12" b = ((-slope 12 : ℝ) : EReal) ∧ Named.named (F := Ideal) (φ := .f32) κ "alibi14" b = ((-slope 14 : ℝ) : EReal) := by
  refine ⟨?_, ?_, ?_, ?_, ?_, ?_, ?_, ?_⟩ <;>
    exact named_value rfl (by rw [← slope_even]; norm_num)

/-- The other heads' slopes, powers of two. -/
theorem ofBits_alibi :
    Ideal.ofBits FTy.f32 0xBF000000#32 = ((-slope 1 : ℝ) : EReal) ∧ Ideal.ofBits FTy.f32 0xBE800000#32 = ((-slope 3 : ℝ) : EReal)
    ∧ Ideal.ofBits FTy.f32 0xBE000000#32 = ((-slope 5 : ℝ) : EReal) ∧ Ideal.ofBits FTy.f32 0xBD800000#32 = ((-slope 7 : ℝ) : EReal)
    ∧ Ideal.ofBits FTy.f32 0xBD000000#32 = ((-slope 9 : ℝ) : EReal) ∧ Ideal.ofBits FTy.f32 0xBC800000#32 = ((-slope 11 : ℝ) : EReal)
    ∧ Ideal.ofBits FTy.f32 0xBC000000#32 = ((-slope 13 : ℝ) : EReal) := by
  refine ⟨?_, ?_, ?_, ?_, ?_, ?_, ?_⟩
  · rw [slope_odd 0]; simp [Ideal.ofBits, Ideal.ieee]; rw [← EReal.coe_mul]; norm_num
  · rw [slope_odd 1]; simp [Ideal.ofBits, Ideal.ieee]; rw [← EReal.coe_mul]; norm_num
  · rw [slope_odd 2]; simp [Ideal.ofBits, Ideal.ieee]; rw [← EReal.coe_mul]; norm_num
  · rw [slope_odd 3]; simp [Ideal.ofBits, Ideal.ieee]; rw [← EReal.coe_mul]; norm_num
  · rw [slope_odd 4]; simp [Ideal.ofBits, Ideal.ieee]; rw [← EReal.coe_mul]; norm_num
  · rw [slope_odd 5]; simp [Ideal.ofBits, Ideal.ieee]; rw [← EReal.coe_mul]; norm_num
  · rw [slope_odd 6]; simp [Ideal.ofBits, Ideal.ieee]; rw [← EReal.coe_mul]; norm_num

/-- The last head's bias, written as a quotient. -/
theorem div_alibi (x : ℝ) : Ideal.div (x : EReal) (Ideal.ofBits FTy.f32 3279945728#32) = ((-slope 15 * x : ℝ) : EReal) := by
  have h : Ideal.ofBits FTy.f32 3279945728#32 = ((-256 : ℝ) : EReal) := by
    simp [Ideal.ofBits, Ideal.ieee]; rw [← EReal.coe_mul]; norm_num
  rw [h, Ideal.div_coe (by norm_num), ← EReal.coe_mul, slope_odd 7]
  congr 1; norm_num; ring

/-- The logarithms of the heads' decays. -/
theorem named_lg (b : BitVec 32) :
    Named.named (F := Ideal) (φ := .f32) κ "log_gamma0" b = (lg 0 : EReal) ∧ Named.named (F := Ideal) (φ := .f32) κ "log_gamma1" b = (lg 1 : EReal)
    ∧ Named.named (F := Ideal) (φ := .f32) κ "log_gamma2" b = (lg 2 : EReal) ∧ Named.named (F := Ideal) (φ := .f32) κ "log_gamma3" b = (lg 3 : EReal)
    ∧ Named.named (F := Ideal) (φ := .f32) κ "log_gamma4" b = (lg 4 : EReal) ∧ Named.named (F := Ideal) (φ := .f32) κ "log_gamma5" b = (lg 5 : EReal)
    ∧ Named.named (F := Ideal) (φ := .f32) κ "log_gamma6" b = (lg 6 : EReal) ∧ Named.named (F := Ideal) (φ := .f32) κ "log_gamma7" b = (lg 7 : EReal) := by
  refine ⟨?_, ?_, ?_, ?_, ?_, ?_, ?_, ?_⟩ <;>
    exact named_value rfl (by rw [lg_eq]; norm_num)

/-- The heads' decays over 32 tokens. -/
theorem named_pow (b : BitVec 32) :
    Named.named (F := Ideal) (φ := .f32) κ "gamma0_pow32" b = ((Real.exp (lg 0 * 32) : ℝ) : EReal) ∧ Named.named (F := Ideal) (φ := .f32) κ "gamma1_pow32" b = ((Real.exp (lg 1 * 32) : ℝ) : EReal)
    ∧ Named.named (F := Ideal) (φ := .f32) κ "gamma2_pow32" b = ((Real.exp (lg 2 * 32) : ℝ) : EReal) ∧ Named.named (F := Ideal) (φ := .f32) κ "gamma3_pow32" b = ((Real.exp (lg 3 * 32) : ℝ) : EReal)
    ∧ Named.named (F := Ideal) (φ := .f32) κ "gamma4_pow32" b = ((Real.exp (lg 4 * 32) : ℝ) : EReal) ∧ Named.named (F := Ideal) (φ := .f32) κ "gamma5_pow32" b = ((Real.exp (lg 5 * 32) : ℝ) : EReal)
    ∧ Named.named (F := Ideal) (φ := .f32) κ "gamma6_pow32" b = ((Real.exp (lg 6 * 32) : ℝ) : EReal) ∧ Named.named (F := Ideal) (φ := .f32) κ "gamma7_pow32" b = ((Real.exp (lg 7 * 32) : ℝ) : EReal) := by
  refine ⟨?_, ?_, ?_, ?_, ?_, ?_, ?_, ?_⟩ <;>
    exact named_value rfl (by rw [show (32 : ℝ) = ((32 : ℕ) : ℝ) by norm_num, exp_lg]; norm_num)

/-- The bit that says whether key `k` is within reach of query `q`. -/
def band (k q : ℕ) : BitVec 1 :=
  IntOp.andi
    (IntOp.cmpi CmpIPredicate.sge
      (Scalar.select
        (IntOp.andi
          (IntOp.cmpi CmpIPredicate.ne
            (IntOp.subi (BitVec.setWidth 32 (IntOp.cmpi CmpIPredicate.sgt (BitVec.ofNat 32 k) 0#32))
              (BitVec.setWidth 32 (IntOp.cmpi CmpIPredicate.slt (BitVec.ofNat 32 k) 0#32))) 1#32)
          (IntOp.cmpi CmpIPredicate.ne (IntOp.remsi ArithUnit.vector (BitVec.ofNat 32 k) 64#32) 0#32))
        (IntOp.subi (IntOp.divsi ArithUnit.vector (BitVec.ofNat 32 k) 64#32) 1#32)
        (IntOp.divsi ArithUnit.vector (BitVec.ofNat 32 k) 64#32))
      (IntOp.subi
        (Scalar.select
          (IntOp.andi
            (IntOp.cmpi CmpIPredicate.ne
              (IntOp.subi (BitVec.setWidth 32 (IntOp.cmpi CmpIPredicate.sgt (IntOp.addi (BitVec.ofNat 32 q) 128#32) 0#32))
                (BitVec.setWidth 32 (IntOp.cmpi CmpIPredicate.slt (IntOp.addi (BitVec.ofNat 32 q) 128#32) 0#32))) 1#32)
            (IntOp.cmpi CmpIPredicate.ne (IntOp.remsi ArithUnit.vector (IntOp.addi (BitVec.ofNat 32 q) 128#32) 64#32) 0#32))
          (IntOp.subi (IntOp.divsi ArithUnit.vector (IntOp.addi (BitVec.ofNat 32 q) 128#32) 64#32) 1#32)
          (IntOp.divsi ArithUnit.vector (IntOp.addi (BitVec.ofNat 32 q) 128#32) 64#32))
        2#32))
    (IntOp.cmpi CmpIPredicate.sle
      (Scalar.select
        (IntOp.andi
          (IntOp.cmpi CmpIPredicate.ne
            (IntOp.subi (BitVec.setWidth 32 (IntOp.cmpi CmpIPredicate.sgt (BitVec.ofNat 32 k) 0#32))
              (BitVec.setWidth 32 (IntOp.cmpi CmpIPredicate.slt (BitVec.ofNat 32 k) 0#32))) 1#32)
          (IntOp.cmpi CmpIPredicate.ne (IntOp.remsi ArithUnit.vector (BitVec.ofNat 32 k) 64#32) 0#32))
        (IntOp.subi (IntOp.divsi ArithUnit.vector (BitVec.ofNat 32 k) 64#32) 1#32)
        (IntOp.divsi ArithUnit.vector (BitVec.ofNat 32 k) 64#32))
      (Scalar.select
        (IntOp.andi
          (IntOp.cmpi CmpIPredicate.ne
            (IntOp.subi (BitVec.setWidth 32 (IntOp.cmpi CmpIPredicate.sgt (IntOp.addi (BitVec.ofNat 32 q) 128#32) 0#32))
              (BitVec.setWidth 32 (IntOp.cmpi CmpIPredicate.slt (IntOp.addi (BitVec.ofNat 32 q) 128#32) 0#32))) 1#32)
          (IntOp.cmpi CmpIPredicate.ne (IntOp.remsi ArithUnit.vector (IntOp.addi (BitVec.ofNat 32 q) 128#32) 64#32) 0#32))
        (IntOp.subi (IntOp.divsi ArithUnit.vector (IntOp.addi (BitVec.ofNat 32 q) 128#32) 64#32) 1#32)
        (IntOp.divsi ArithUnit.vector (IntOp.addi (BitVec.ofNat 32 q) 128#32) 64#32)))

/-- Every one of the 160 keys is within reach of every one of the 32 queries. -/
theorem band_true : ∀ (k : Fin 160) (q : Fin 32), band k.val q.val = 1#1 := by decide +kernel

/-- Where the key is within reach, the bias is the chosen one. -/
theorem select_band (k q : ℕ) (hk : k < 160) (hq : q < 32) (a b : EReal) : Scalar.select (band k q) a b = a := by
  rw [band_true ⟨k, hk⟩ ⟨q, hq⟩]; rfl

/-- The attention's bias: head, key, query. -/
def biasT : S16x160x32.Idx → EReal := fun x => ((-slope (x 0).val * gap (x 2).val (x 1).val : ℝ) : EReal)
/-- The decay of every pair of tokens, times the scale. -/
def decayT : S8x32x32.Idx → EReal := fun x => ((decay (x 0).val (x 1).val (x 2).val * scale : ℝ) : EReal)
/-- The decay of the carried state at each token. -/
def crossT : S8x32x128.Idx → EReal := fun x => ((Real.exp (lg (x 0).val * ((x 1).val + 1)) : ℝ) : EReal)
/-- The decay of each token's key in the new state, times the scale. -/
def keyT : S8x32x128.Idx → EReal := fun x => ((Real.exp (lg (x 0).val * (31 - (x 1).val)) * scale : ℝ) : EReal)

/-- At the first point the biases are filled, -/
theorem bias_fill (c : Dev nD) (t : Fin cfg0.N) (h0 : t.val % 16 = 0) : (outsAt0 m c t.val t.isLt).2.2.2.1 = biasT := by
  funext x
  rw [outsAt0_A m c t h0]
  frame_out
  canon_tiles x h
  all_goals unfold_payloads
  all_goals pointwise [biasT]
  all_goals
    refine (select_band _ _ ‹_› ‹_› _ _).trans ?_
    rw [sitofp_gap _ _ ‹_› ‹_›]
    have ha := named_alibi
    have hb := ofBits_alibi
    have hz : (x 0).val = 0 := by omega
    simp only [div_alibi, ha, hb, ← EReal.coe_mul, h0, h1, h2, hz]

/-- the decays between tokens, -/
theorem decay_fill (c : Dev nD) (t : Fin cfg0.N) (h0 : t.val % 16 = 0) : (outsAt0 m c t.val t.isLt).2.2.2.2.1 = decayT := by
  funext x
  rw [outsAt0_A m c t h0]
  frame_out
  canon_tiles x h
  all_goals unfold_payloads
  all_goals pointwise [decayT]
  all_goals
    have hl := named_lg
    simp only [hl, ofBits_scale, EReal.coe_mul]
    have hz : (x 0).val = 0 := by omega
    simp only [h0, h1, h2, hz]
    exact congrArg (· * (scale : EReal)) (decay_entry _ _ _ ‹_› ‹_›)

/-- the decays of the state, -/
theorem cross_fill (c : Dev nD) (t : Fin cfg0.N) (h0 : t.val % 16 = 0) : (outsAt0 m c t.val t.isLt).2.2.2.2.2.1 = crossT := by
  funext x
  rw [outsAt0_A m c t h0]
  frame_out
  canon_tiles x h
  all_goals unfold_payloads
  all_goals pointwise [crossT]
  all_goals
    have hl := named_lg
    rw [sitofp_small _ (by omega)]
    simp only [hl, ← EReal.coe_mul, ← EReal.coe_one, ← EReal.coe_add, Ideal.exp_coe]
    have hz : (x 0).val = 0 := by omega
    simp only [h0, h1, h2, hz]

/-- and the decays to the block's end. -/
theorem key_fill (c : Dev nD) (t : Fin cfg0.N) (h0 : t.val % 16 = 0) : (outsAt0 m c t.val t.isLt).2.2.2.2.2.2 = keyT := by
  funext x
  rw [outsAt0_A m c t h0]
  frame_out
  canon_tiles x h
  all_goals unfold_payloads
  all_goals pointwise [keyT]
  all_goals
    have hl := named_lg
    rw [sitofp_small _ (by omega)]
    simp only [hl, ofBits_31, ofBits_scale, ← EReal.coe_mul, ← EReal.coe_sub, Ideal.exp_coe]
    have hz : (x 0).val = 0 := by omega
    simp only [h0, h1, h2, hz]

/-- After every point the tables hold these values. -/
theorem tables (c : Dev nD) : ∀ (n : ℕ) (hn : n < cfg0.N),
    (outsAt0 m c n hn).2.2.2.1 = biasT ∧ (outsAt0 m c n hn).2.2.2.2.1 = decayT
      ∧ (outsAt0 m c n hn).2.2.2.2.2.1 = crossT ∧ (outsAt0 m c n hn).2.2.2.2.2.2 = keyT := by
  intro n
  induction n using Nat.strong_induction_on with
  | _ n ih =>
    intro hn
    by_cases h0 : n % 16 = 0
    · exact ⟨bias_fill m c ⟨n, hn⟩ h0, decay_fill m c ⟨n, hn⟩ h0, cross_fill m c ⟨n, hn⟩ h0, key_fill m c ⟨n, hn⟩ h0⟩
    · have hp := ih (n - 1) (by omega) (by omega)
      rw [outsAt0_B m c ⟨n, hn⟩ h0]
      exact hp

end Cert.KernelIdeal.Result

end

end
-- ==== Proof.Blocks.lean ====
/- The first call's blocks at a point, as entries of its arrays. -/
module

public import proofs.«01_k».proof.Proof.Tables
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.KernelIdeal.Result

open Cert.KernelIdeal Cert.KernelIdeal.Gen Cert.Alg Cert.Spec Idealize.ShloMosaic Idealize.ShloMosaic.TcCoe Idealize.SL.Sem

variable (m : (ℓ : Loc nD τ sig) → Buf (Elt Ideal) ℓ)

/-- The first half of the projection. -/
abbrev A0 (c : Dev nD) : S512x6144.Idx → EReal := m ((c : Thread nD τ).loc main_arg0)
/-- The second half of the projection. -/
abbrev A1 (c : Dev nD) : S512x5632.Idx → EReal := m ((c : Thread nD τ).loc main_arg1)
/-- The sinks. -/
abbrev A2 (c : Dev nD) : S16.Idx → EReal := m ((c : Thread nD τ).loc main_arg2)
/-- The cache's keys. -/
abbrev A3 (c : Dev nD) : S16x128x256.Idx → EReal := m ((c : Thread nD τ).loc main_arg3)
/-- The cache's values. -/
abbrev A4 (c : Dev nD) : S16x128x256.Idx → EReal := m ((c : Thread nD τ).loc main_arg4)
/-- The state. -/
abbrev A5 (c : Dev nD) : S16x8x128x256.Idx → EReal := m ((c : Thread nD τ).loc main_arg5)

/-- Window 0's block at a point. -/
theorem idx0 : ∀ t : Fin cfg0.N, win0_0.index t = ![t.val, 0] := (by decide +kernel : ∀ t : Fin grid0.N, _)
/-- Window 1's block at a point. -/
theorem idx1 : ∀ t : Fin cfg0.N, win0_1.index t = ![t.val, 2] := (by decide +kernel : ∀ t : Fin grid0.N, _)
/-- Window 2's block at a point. -/
theorem idx2 : ∀ t : Fin cfg0.N, win0_2.index t = ![t.val, 3] := (by decide +kernel : ∀ t : Fin grid0.N, _)
/-- Window 3's block at a point. -/
theorem idx3 : ∀ t : Fin cfg0.N, win0_3.index t = ![t.val, 4] := (by decide +kernel : ∀ t : Fin grid0.N, _)
/-- Window 4's block at a point. -/
theorem idx4 : ∀ t : Fin cfg0.N, win0_4.index t = ![t.val, 10] := (by decide +kernel : ∀ t : Fin grid0.N, _)
/-- Window 5's block at a point. -/
theorem idx5 : ∀ t : Fin cfg0.N, win0_5.index t = ![t.val, 0, 0] := (by decide +kernel : ∀ t : Fin grid0.N, _)
/-- Window 6's block at a point. -/
theorem idx6 : ∀ t : Fin cfg0.N, win0_6.index t = ![t.val, 0, 0] := (by decide +kernel : ∀ t : Fin grid0.N, _)
/-- Window 7's block at a point. -/
theorem idx7 : ∀ t : Fin cfg0.N, win0_7.index t = ![t.val, 0, 0, 0] := (by decide +kernel : ∀ t : Fin grid0.N, _)
/-- Window 8's block at a point. -/
theorem idx8 : ∀ t : Fin cfg0.N, win0_8.index t = ![0] := (by decide +kernel : ∀ t : Fin grid0.N, _)

/-- Window 0's entries, of the first projection. -/
theorem blk0 (c : Dev nD) (t : Fin cfg0.N) (i : Fin 32) (j : Fin 2048) :
    iblk m c 0 t (Idealize.ShloMosaic.ix2 i j) = at2 (A0 m c) (t.val * 32 + i.val) j.val := by
  have h : t.val < 16 := t.isLt
  refine Eq.trans ?_ (at2_ix (A0 m c) ⟨t.val * 32 + i.val, by omega⟩ ⟨j.val, by omega⟩)
  blk_ext [iblk, V, idx0 t]
/-- Window 1's entries, of the second projection. -/
theorem blk1 (c : Dev nD) (t : Fin cfg0.N) (i : Fin 32) (j : Fin 1024) :
    X0_1 m c t (Idealize.ShloMosaic.ix2 i j) = at2 (A1 m c) (t.val * 32 + i.val) (2048 + j.val) := by
  have h : t.val < 16 := t.isLt
  refine Eq.trans ?_ (at2_ix (A1 m c) ⟨t.val * 32 + i.val, by omega⟩ ⟨2048 + j.val, by omega⟩)
  unfold X0_1 Pipeline.Window.fill
  rw [dif_pos (moved0_1 t _)]
  blk_ext [iblk, V, idx1 t]
/-- Window 2's entries, of the second projection. -/
theorem blk2 (c : Dev nD) (t : Fin cfg0.N) (i : Fin 32) (j : Fin 1024) :
    X0_2 m c t (Idealize.ShloMosaic.ix2 i j) = at2 (A1 m c) (t.val * 32 + i.val) (3072 + j.val) := by
  have h : t.val < 16 := t.isLt
  refine Eq.trans ?_ (at2_ix (A1 m c) ⟨t.val * 32 + i.val, by omega⟩ ⟨3072 + j.val, by omega⟩)
  unfold X0_2 Pipeline.Window.fill
  rw [dif_pos (moved0_2 t _)]
  blk_ext [iblk, V, idx2 t]
/-- Window 3's entries, of the second projection. -/
theorem blk3 (c : Dev nD) (t : Fin cfg0.N) (i : Fin 32) (j : Fin 1024) :
    X0_3 m c t (Idealize.ShloMosaic.ix2 i j) = at2 (A1 m c) (t.val * 32 + i.val) (4096 + j.val) := by
  have h : t.val < 16 := t.isLt
  refine Eq.trans ?_ (at2_ix (A1 m c) ⟨t.val * 32 + i.val, by omega⟩ ⟨4096 + j.val, by omega⟩)
  unfold X0_3 Pipeline.Window.fill
  rw [dif_pos (moved0_3 t _)]
  blk_ext [iblk, V, idx3 t]
/-- Window 4's entries, of the second projection. -/
theorem blk4 (c : Dev nD) (t : Fin cfg0.N) (i : Fin 32) (j : Fin 512) :
    iblk m c 4 t (Idealize.ShloMosaic.ix2 i j) = at2 (A1 m c) (t.val * 32 + i.val) (5120 + j.val) := by
  have h : t.val < 16 := t.isLt
  refine Eq.trans ?_ (at2_ix (A1 m c) ⟨t.val * 32 + i.val, by omega⟩ ⟨5120 + j.val, by omega⟩)
  blk_ext [iblk, V, idx4 t]
/-- Window 5's entries, of the cached keys. -/
theorem blk5 (c : Dev nD) (t : Fin cfg0.N) (i : Fin 128) (j : Fin 256) :
    iblk m c 5 t (Idealize.ShloMosaic.ix3 0 i j) = at3 (A3 m c) t.val i.val j.val := by
  refine Eq.trans ?_ (at3_ix (A3 m c) ⟨t.val, t.isLt⟩ i j)
  blk_ext [iblk, V, idx5 t]
/-- Window 6's entries, of the cached values. -/
theorem blk6 (c : Dev nD) (t : Fin cfg0.N) (i : Fin 128) (j : Fin 256) :
    iblk m c 6 t (Idealize.ShloMosaic.ix3 0 i j) = at3 (A4 m c) t.val i.val j.val := by
  refine Eq.trans ?_ (at3_ix (A4 m c) ⟨t.val, t.isLt⟩ i j)
  blk_ext [iblk, V, idx6 t]
/-- Window 7's entries, of the state. -/
theorem blk7 (c : Dev nD) (t : Fin cfg0.N) (h : Fin 8) (d : Fin 128) (e : Fin 256) :
    iblk m c 7 t (Idealize.ShloMosaic.ix4 0 h d e) = at4 (A5 m c) t.val h.val d.val e.val := by
  refine Eq.trans ?_ (at4_ix (A5 m c) ⟨t.val, t.isLt⟩ h d e)
  blk_ext [iblk, V, idx7 t]
/-- Window 8's entries, of the sinks. -/
theorem blk8 (c : Dev nD) (t : Fin cfg0.N) (h : Fin 16) :
    iblk m c 8 t (Idealize.ShloMosaic.ix1 h) = at1 (A2 m c) h.val := by
  refine Eq.trans ?_ (at1_ix (A2 m c) h)
  blk_ext [iblk, V, idx8 t]

/-- The keys and values of a point: the cache's 128 tokens, then the block's 32. -/
def kv (c : Dev nD) (t : Fin cfg0.N) : S160x512.Idx → EReal := fun y =>
  if h : (y 0).val < 128 then
    if h' : (y 1).val < 256 then iblk m c 5 t (Idealize.ShloMosaic.ix3 ⟨0, by omega⟩ ⟨(y 0).val, h⟩ ⟨(y 1).val, h'⟩)
    else iblk m c 6 t (Idealize.ShloMosaic.ix3 ⟨0, by omega⟩ ⟨(y 0).val, h⟩ ⟨(y 1).val - 256, by have h1 : (y 1).val < 512 := (y 1).isLt; omega⟩)
  else iblk m c 4 t (Idealize.ShloMosaic.ix2 ⟨(y 0).val - 128, by have h0 : (y 0).val < 160 := (y 0).isLt; omega⟩ ⟨(y 1).val, (y 1).isLt⟩)

/-- An index within a rectangle's bounds lies in it. -/
theorem mem_unit2 {a b : ℕ} (off sz : Fin 2 → ℕ) (inb : ∀ i : Fin 2, off i + sz i ≤ (![a, b] : Fin 2 → ℕ) i) (x : (⟨2, ![a, b]⟩ : Shape).Idx)
    (h0 : off 0 ≤ (x 0).val ∧ (x 0).val < off 0 + sz 0) (h1 : off 1 ≤ (x 1).val ∧ (x 1).val < off 1 + sz 1) :
    x ∈ (Rect.unit (s := ⟨2, ![a, b]⟩) off sz inb).set :=
  Rect.mem_set_unit.mpr (Fin.forall_fin_two.mpr ⟨h0, h1⟩)

/-- The three stores of the keys and values fill the buffer. -/
theorem kv_cover (p4 : S32x512.Idx → EReal) (p5 p6 : S128x256.Idx → EReal) (x : S160x512.Idx) :
    ∃ p ∈ ([⟨Rect.unit ![128, 0] ![32, 512] inb_S160x512_S32x512_128_0, p4⟩,
      ⟨Rect.unit ![0, 256] ![128, 256] inb_S160x512_S128x256_0_256, p6⟩,
      ⟨Rect.unit ![0, 0] ![128, 256] inb_S160x512_S128x256_0_0, p5⟩] : List (View.Piece (Elt Ideal) S160x512 .bf16)), x ∈ p.1.set := by
  have h0 : (x 0).val < 160 := (x 0).isLt
  have h1 : (x 1).val < 512 := (x 1).isLt
  rcases Nat.lt_or_ge (x 0).val 128 with a | a
  · rcases Nat.lt_or_ge (x 1).val 256 with b | b
    · exact ⟨_, List.mem_cons_of_mem _ (List.mem_cons_of_mem _ List.mem_cons_self), mem_unit2 ![0, 0] ![128, 256] inb_S160x512_S128x256_0_0 x ⟨Nat.zero_le _, a⟩ ⟨Nat.zero_le _, b⟩⟩
    · exact ⟨_, List.mem_cons_of_mem _ List.mem_cons_self, mem_unit2 ![0, 256] ![128, 256] inb_S160x512_S128x256_0_256 x ⟨Nat.zero_le _, a⟩ ⟨b, h1⟩⟩
  · exact ⟨_, List.mem_cons_self, mem_unit2 ![128, 0] ![32, 512] inb_S160x512_S32x512_128_0 x ⟨a, h0⟩ ⟨Nat.zero_le _, h1⟩⟩

/-- A read of the buffer the three stores fill is a read of the keys and values. -/
theorem kv_read (c : Dev nD) (t : Fin cfg0.N) (r : Rect S160x512) :
    (View.whole cc0_scratch1).readCov (Val := Elt Ideal)
      [⟨Rect.unit ![128, 0] ![32, 512] inb_S160x512_S32x512_128_0, k0_pay66 (iblk m c 4 t)⟩,
        ⟨Rect.unit ![0, 256] ![128, 256] inb_S160x512_S128x256_0_256, k0_pay65 (iblk m c 6 t)⟩,
        ⟨Rect.unit ![0, 0] ![128, 256] inb_S160x512_S128x256_0_0, k0_pay64 (iblk m c 5 t)⟩] r.toLoadRect = View.ld (kv m c t) r := by
  rw [View.readCov_eq_canon']
  refine congrArg (fun Z => View.ld Z r) (funext fun x => ?_)
  have hc := kv_cover (k0_pay66 (iblk m c 4 t)) (k0_pay64 (iblk m c 5 t)) (k0_pay65 (iblk m c 6 t)) x
  canon_tiles x h using hc
  all_goals unfold_payloads
  all_goals pointwise [kv]
  · rw [dif_neg (by omega)]
    exact congrArg _ (funext (Fin.forall_fin_two.mpr ⟨Fin.ext (by show (x 0).val = _ - 128; omega), Fin.ext (by show (x 1).val = _; exact h1.symm)⟩))
  · rw [dif_pos (by omega), dif_neg (by omega)]
    exact congrArg _ (congrArg₂ (Idealize.ShloMosaic.ix3 0) (Fin.ext h0.symm) (Fin.ext (by show (x 1).val = _ - 256; omega)))
  · rw [dif_pos (by omega), dif_pos (by omega)]
    exact congrArg _ (congrArg₂ (Idealize.ShloMosaic.ix3 0) (Fin.ext h0.symm) (Fin.ext h1.symm))

/-- A key of a point. -/
theorem kv_key (c : Dev nD) (t : Fin cfg0.N) (k : Fin 160) (j : Fin 512) (b : ℕ) (hb : b < 256) (hj : j.val = b) :
    kv m c t (Idealize.ShloMosaic.ix2 k j) = key (A1 m c) (A3 m c) t.val k.val b := by
  unfold kv key
  by_cases h : k.val < 128
  · refine Eq.trans ((dif_pos h).trans (dif_pos (hj ▸ hb))) ?_
    rw [if_pos h]
    exact (blk5 m c t _ _).trans (congrArg _ hj)
  · refine Eq.trans (dif_neg h) ?_
    rw [if_neg h]
    exact (blk4 m c t _ _).trans (congrArg _ (congrArg _ hj))

/-- A value of a point. -/
theorem kv_val (c : Dev nD) (t : Fin cfg0.N) (k : Fin 160) (j : Fin 512) (b : ℕ) (hj : j.val = 256 + b) :
    kv m c t (Idealize.ShloMosaic.ix2 k j) = val (A1 m c) (A4 m c) t.val k.val b := by
  unfold kv val
  by_cases h : k.val < 128
  · refine Eq.trans ((dif_pos h).trans (dif_neg (by show ¬ j.val < 256; omega))) ?_
    rw [if_pos h]
    exact (blk6 m c t _ _).trans (congrArg _ (by show j.val - 256 = b; omega))
  · refine Eq.trans (dif_neg h) ?_
    rw [if_neg h]
    exact (blk4 m c t _ _).trans (congrArg _ (by show 5120 + j.val = 5376 + b; omega))

/-- A read of a covered buffer. -/
theorem readCov_ld {s : Shape} {e : EltTy} {sp : Space} (v : View sig .tc sp s e) (L : List (View.Piece (Elt Ideal) s e)) (r : Rect s) :
    v.readCov L r.toLoadRect = View.ld (View.canon L) r := View.readCov_eq_canon' v L r.toLoadRect

end Cert.KernelIdeal.Result
end
end
-- ==== Proof.Attn.lean ====
/- The first call's attention: every block of its first result is the attention of the block's batch. -/
module

public import proofs.«01_k».proof.Proof.Blocks

@[expose] public section

set_option maxRecDepth 16384

noncomputable section

namespace Cert.KernelIdeal.Result

open Cert.KernelIdeal Cert.KernelIdeal.Gen Cert.Alg Cert.Spec Idealize.ShloMosaic Idealize.ShloMosaic.TcCoe Idealize.SL.Sem

variable (m : (ℓ : Loc nD τ sig) → Buf (Elt Ideal) ℓ)

/-- An entry of the attention's block from its scores, values and sink, as they are computed. -/
theorem attn_close (c : Dev nD) (t : Fin cfg0.N) (R : Reals (A1 m c) (A2 m c) (A3 m c)) {h q e : ℕ} (hh : h < 16)
    {s v : Fin 160 → EReal} {sink : EReal} (hs : ∀ k, s k = score (A1 m c) (A3 m c) t.val h q k.val)
    (hv : ∀ k, v k = val (A1 m c) (A4 m c) t.val k.val (h / 4 * 64 + e)) (hk : sink = at1 (A2 m c) h) :
    (∑ k, v k * Ideal.exp (s k - max (Finset.univ.fold max (⊥ : EReal) s) sink))
        * Ideal.div 1 ((∑ k, Ideal.exp (s k - max (Finset.univ.fold max (⊥ : EReal) s) sink))
          + Ideal.exp (sink - max (Finset.univ.fold max (⊥ : EReal) s) sink))
      = attn (A1 m c) (A2 m c) (A3 m c) (A4 m c) t.val h q e :=
  weighted_close hs hv hk (fun k => score_real R _ _ _ _ hh) (at1_real R.sink _)

/-- The negative slope times the distance, from equal heads. -/
theorem bias_close {h h' d : ℕ} (e : h = h') : -slope h * (d : ℝ) = -slope h' * (d : ℝ) := e ▸ rfl

/-- The attention's block, where the tables are kept from the point before. -/
theorem attnB (c : Dev nD) (R : Reals (A1 m c) (A2 m c) (A3 m c)) (t : Fin cfg0.N) (ht : ¬ t.val % 16 = 0) (y : S32x1024.Idx) :
    (outsAt0 m c t.val t.isLt).1 y = attn (A1 m c) (A2 m c) (A3 m c) (A4 m c) t.val ((y 1).val / 64) (y 0).val ((y 1).val % 64) := by
  rw [outsAt0_B m c t ht]
  frame_out
  simp only [read_unread_whole, (tables m c (t.val - 1) (by omega)).1]
  canon_tiles x h
  all_goals rw [kv_read, kv_read]
  all_goals unfold_payloads
  all_goals pointwise [biasT]
  all_goals simp only [ofBits_neg_inf, ofBits_eighth_half]
  all_goals
    rw [h0, show (y 1).val % 64 = (x 1).val by omega]
    refine attn_close m c t R (by omega) (fun k => ?_) (fun k => ?_) ?_
    · refine score_close (fun d => ?_) (fun d => ?_) (bias_close (by omega))
      · exact kv_key m c t _ _ _ (by omega) (by first | omega | (dsimp only; omega))
      · exact (blk1 m c t _ _).trans (congrArg _ (congrArg _ (by first | omega | (dsimp only; omega))))
    · exact kv_val m c t _ _ _ (by first | omega | (dsimp only; omega))
    · exact (blk8 m c t _).trans (congrArg _ (by first | omega | (dsimp only; omega)))

/-- The attention's block at the first point, which writes the tables. -/
theorem attnA (c : Dev nD) (R : Reals (A1 m c) (A2 m c) (A3 m c)) (t : Fin cfg0.N) (ht : t.val % 16 = 0) (y : S32x1024.Idx) :
    (outsAt0 m c t.val t.isLt).1 y = attn (A1 m c) (A2 m c) (A3 m c) (A4 m c) t.val ((y 1).val / 64) (y 0).val ((y 1).val % 64) := by
  have hb := bias_fill m c t ht
  revert hb
  rw [outsAt0_A m c t ht]
  frame_out
  intro hb
  canon_tiles x h
  all_goals rw [kv_read, kv_read, readCov_ld (View.whole cc0_scratch2), hb]
  all_goals unfold_payloads
  all_goals pointwise [biasT]
  all_goals simp only [ofBits_neg_inf, ofBits_eighth_half]
  all_goals
    rw [h0, show (y 1).val % 64 = (x 1).val by omega]
    refine attn_close m c t R (by omega) (fun k => ?_) (fun k => ?_) ?_
    · refine score_close (fun d => ?_) (fun d => ?_) (bias_close (by omega))
      · exact kv_key m c t _ _ _ (by omega) (by first | omega | (dsimp only; omega))
      · exact (blk1 m c t _ _).trans (congrArg _ (congrArg _ (by first | omega | (dsimp only; omega))))
    · exact kv_val m c t _ _ _ (by first | omega | (dsimp only; omega))
    · exact (blk8 m c t _).trans (congrArg _ (by first | omega | (dsimp only; omega)))

end Cert.KernelIdeal.Result
end
end
-- ==== Proof.Ret.lean ====
/- The first call's retention: every block of its second result is the retention of the block's batch. -/
module

public import proofs.«01_k».proof.Proof.Blocks

@[expose] public section

set_option maxRecDepth 16384

noncomputable section

namespace Cert.KernelIdeal.Result

open Cert.KernelIdeal Cert.KernelIdeal.Gen Cert.Alg Cert.Spec Idealize.ShloMosaic Idealize.ShloMosaic.TcCoe Idealize.SL.Sem

variable (m : (ℓ : Loc nD τ sig) → Buf (Elt Ideal) ℓ)

section

variable {pa : S512x6144.Idx → EReal} {pb : S512x5632.Idx → EReal} {st : S16x8x128x256.Idx → EReal}

/-- The retention before the normalisation, as it is computed: the scale is at the decays. -/
theorem ret_term {b h h' i e a v : ℕ} (hh : h' = h) (ha : a = h * 128) (hv : v = h * 256 + e) :
    (∑ j : Fin 32, (∑ d : Fin 128, at2 pb (b * 32 + i) (3072 + (a + d.val)) * at2 pb (b * 32 + j.val) (4096 + (a + d.val)))
        * ((decay h i j.val * scale : ℝ) : EReal) * at2 pa (b * 32 + j.val) v)
      + (∑ d : Fin 128, at2 pb (b * 32 + i) (3072 + (a + d.val)) * at4 st b h' d.val e) * ((Real.exp (lg h * ((i : ℝ) + 1)) : ℝ) : EReal)
      = ret pa pb st b h i e := by
  subst hh ha hv
  exact ret_close (fun j => decay_nonneg _ _ _) _

/-- The same, of the first head, whose columns are the first. -/
theorem ret_term0 {b h' i e v : ℕ} (hh : h' = 0) (hv : v = e) :
    (∑ j : Fin 32, (∑ d : Fin 128, at2 pb (b * 32 + i) (3072 + d.val) * at2 pb (b * 32 + j.val) (4096 + d.val))
        * ((decay 0 i j.val * scale : ℝ) : EReal) * at2 pa (b * 32 + j.val) v)
      + (∑ d : Fin 128, at2 pb (b * 32 + i) (3072 + d.val) * at4 st b h' d.val e) * ((Real.exp (lg 0 * ((i : ℝ) + 1)) : ℝ) : EReal)
      = ret pa pb st b 0 i e := by
  have z := ret_term (pa := pa) (pb := pb) (st := st) (b := b) (h := 0) (i := i) (e := e) (a := 0) (v := v) hh (by omega) (by omega)
  simpa only [Nat.zero_add] using z

end

/-- A head's columns with mean zero and variance one, as they are computed: every sum over the two halves of the columns. -/
theorem normed_halves (o : ℕ → EReal) (e : ℕ) :
    (o e - Ideal.div ((∑ i : Fin 128, o i.val) + ∑ i : Fin 128, o (128 + i.val)) (Ideal.ofBits FTy.f32 1132462080#32)) * Ideal.rsqrt (Ideal.div
        ((∑ i : Fin 128, (o i.val - Ideal.div ((∑ i : Fin 128, o i.val) + ∑ i : Fin 128, o (128 + i.val)) (Ideal.ofBits FTy.f32 1132462080#32))
            * (o i.val - Ideal.div ((∑ i : Fin 128, o i.val) + ∑ i : Fin 128, o (128 + i.val)) (Ideal.ofBits FTy.f32 1132462080#32)))
          + ∑ i : Fin 128, (o (128 + i.val) - Ideal.div ((∑ i : Fin 128, o i.val) + ∑ i : Fin 128, o (128 + i.val)) (Ideal.ofBits FTy.f32 1132462080#32))
            * (o (128 + i.val) - Ideal.div ((∑ i : Fin 128, o i.val) + ∑ i : Fin 128, o (128 + i.val)) (Ideal.ofBits FTy.f32 1132462080#32))) (Ideal.ofBits FTy.f32 1132462080#32)
      + Ideal.ofBits FTy.f32 897988541#32) = normed o e := by
  unfold normed mean
  rw [sum_halves o, sum_halves fun n => (o n - Ideal.div ((∑ i : Fin 128, o i.val) + ∑ i : Fin 128, o (128 + i.val)) (Ideal.ofBits FTy.f32 1132462080#32))
    * (o n - Ideal.div ((∑ i : Fin 128, o i.val) + ∑ i : Fin 128, o (128 + i.val)) (Ideal.ofBits FTy.f32 1132462080#32))]

/-- The retention's block, where the tables are kept from the point before. -/
theorem retB (c : Dev nD) (t : Fin cfg0.N) (ht : ¬ t.val % 16 = 0) (y : S32x2048.Idx) :
    (outsAt0 m c t.val t.isLt).2.1 y = normed (ret (A0 m c) (A1 m c) (A5 m c) t.val ((y 1).val / 256) (y 0).val) ((y 1).val % 256) := by
  rw [outsAt0_B m c t ht]
  frame_out
  have T := tables m c (t.val - 1) (by omega)
  simp only [read_unread_whole, T.2.1, T.2.2.1]
  canon_tiles x h
  all_goals simp (decide := true) only [↓View.readCov_skip, ↓View.readCov_fill]
  all_goals unfold_payloads
  all_goals pointwise [decayT, crossT]
  all_goals try (simp only [read_unread_whole, T.2.2.1]; pointwise [crossT])
  all_goals simp only [blk0, blk2 m c t (x 0), blk3, blk7, blk7 m c t _ _ (x 1), dite_eq_ite, ite_self]
  all_goals simp (disch := omega) only [ret_term, ret_term0]
  all_goals
    refine (normed_halves (ret (A0 m c) (A1 m c) (A5 m c) t.val _ (x 0).val) _).trans ?_
    rw [h0]
    exact congrArg₂ (fun h e => normed (ret (A0 m c) (A1 m c) (A5 m c) t.val h (x 0).val) e) (by omega) (by omega)

/-- The retention's block at the first point, which writes the tables. -/
theorem retA (c : Dev nD) (t : Fin cfg0.N) (ht : t.val % 16 = 0) (y : S32x2048.Idx) :
    (outsAt0 m c t.val t.isLt).2.1 y = normed (ret (A0 m c) (A1 m c) (A5 m c) t.val ((y 1).val / 256) (y 0).val) ((y 1).val % 256) := by
  have hd := decay_fill m c t ht
  have hx := cross_fill m c t ht
  revert hd hx
  rw [outsAt0_A m c t ht]
  frame_out
  intro hd hx
  canon_tiles x h
  all_goals rw [readCov_ld (View.whole cc0_scratch3), hd, readCov_ld (View.whole cc0_scratch4), hx]
  all_goals simp (decide := true) only [↓View.readCov_skip, ↓View.readCov_fill]
  all_goals unfold_payloads
  all_goals pointwise [decayT, crossT]
  all_goals simp only [blk0, blk2 m c t (x 0), blk3, blk7, blk7 m c t _ _ (x 1), dite_eq_ite, ite_self]
  all_goals simp (disch := omega) only [ret_term, ret_term0]
  all_goals
    refine (normed_halves (ret (A0 m c) (A1 m c) (A5 m c) t.val _ (x 0).val) _).trans ?_
    rw [h0]
    exact congrArg₂ (fun h e => normed (ret (A0 m c) (A1 m c) (A5 m c) t.val h (x 0).val) e) (by omega) (by omega)

end Cert.KernelIdeal.Result
end
end
-- ==== Proof.St.lean ====
/- The first call's state: every block of its third result is the new state of the block's batch. -/
module

public import proofs.«01_k».proof.Proof.Blocks

@[expose] public section

set_option maxRecDepth 16384

noncomputable section

namespace Cert.KernelIdeal.Result

open Cert.KernelIdeal Cert.KernelIdeal.Gen Cert.Alg Cert.Spec Idealize.ShloMosaic Idealize.ShloMosaic.TcCoe Idealize.SL.Sem

variable (m : (ℓ : Loc nD τ sig) → Buf (Elt Ideal) ℓ)

/-- Later stores decide where they reach, whatever the earlier ones. -/
theorem canon_append {s : Shape} {e : EltTy} (L L' : List (View.Piece (Elt Ideal) s e)) (y : s.Idx) (hc : ∃ p ∈ L, y ∈ p.1.set) :
    View.canon (L ++ L') y = View.canon L y := by
  induction L with
  | nil => obtain ⟨_, h, _⟩ := hc; exact absurd h List.not_mem_nil
  | cons p L ih =>
    by_cases h : y ∈ p.1.set
    · obtain ⟨r, w⟩ := p
      obtain ⟨x, rfl⟩ : ∃ x, r.emb x = y := r.exists_idx_of_mem h
      exact (View.canon_cons_emb r w (L ++ L') x).trans (View.canon_cons_emb r w L x).symm
    · rw [List.cons_append, View.canon_cons_of_not_mem _ _ h, View.canon_cons_of_not_mem _ _ h]
      obtain ⟨q, hq, hy⟩ := hc
      rcases List.mem_cons.mp hq with rfl | hq
      · exact absurd hy h
      · exact ih ⟨q, hq, hy⟩

/-- An index within a rectangle's bounds lies in it. -/
theorem mem_unit3 {a b c : ℕ} (off sz : Fin 3 → ℕ) (inb : ∀ i : Fin 3, off i + sz i ≤ (![a, b, c] : Fin 3 → ℕ) i) (x : (⟨3, ![a, b, c]⟩ : Shape).Idx)
    (h0 : off 0 ≤ (x 0).val ∧ (x 0).val < off 0 + sz 0) (h1 : off 1 ≤ (x 1).val ∧ (x 1).val < off 1 + sz 1)
    (h2 : off 2 ≤ (x 2).val ∧ (x 2).val < off 2 + sz 2) :
    x ∈ (Rect.unit (s := ⟨3, ![a, b, c]⟩) off sz inb).set :=
  Rect.mem_set_unit.mpr (Fin.forall_fin_succ.mpr ⟨h0, Fin.forall_fin_two.mpr ⟨h1, h2⟩⟩)

/-- The heads' eight stores. -/
abbrev heads (p0 p1 p2 p3 p4 p5 p6 p7 : S1x128x256.Idx → EReal) : List (View.Piece (Elt Ideal) S8x128x256 .f32) :=
    [⟨Rect.unit ![7, 0, 0] ![1, 128, 256] inb_S8x128x256_S1x128x256_7_0_0, p7⟩,
      ⟨Rect.unit ![6, 0, 0] ![1, 128, 256] inb_S8x128x256_S1x128x256_6_0_0, p6⟩,
      ⟨Rect.unit ![5, 0, 0] ![1, 128, 256] inb_S8x128x256_S1x128x256_5_0_0, p5⟩,
      ⟨Rect.unit ![4, 0, 0] ![1, 128, 256] inb_S8x128x256_S1x128x256_4_0_0, p4⟩,
      ⟨Rect.unit ![3, 0, 0] ![1, 128, 256] inb_S8x128x256_S1x128x256_3_0_0, p3⟩,
      ⟨Rect.unit ![2, 0, 0] ![1, 128, 256] inb_S8x128x256_S1x128x256_2_0_0, p2⟩,
      ⟨Rect.unit ![1, 0, 0] ![1, 128, 256] inb_S8x128x256_S1x128x256_1_0_0, p1⟩,
      ⟨Rect.unit ![0, 0, 0] ![1, 128, 256] inb_S8x128x256_S1x128x256_0_0_0, p0⟩]

/-- The heads' eight stores over the fill leave nothing of it. -/
theorem state_read (p0 p1 p2 p3 p4 p5 p6 p7 : S1x128x256.Idx → EReal) (f : S8x128x256.Idx → EReal) :
    (View.whole cc0_scratch0).readCov (Val := Elt Ideal)
      [⟨Rect.unit ![7, 0, 0] ![1, 128, 256] inb_S8x128x256_S1x128x256_7_0_0, p7⟩,
      ⟨Rect.unit ![6, 0, 0] ![1, 128, 256] inb_S8x128x256_S1x128x256_6_0_0, p6⟩,
      ⟨Rect.unit ![5, 0, 0] ![1, 128, 256] inb_S8x128x256_S1x128x256_5_0_0, p5⟩,
      ⟨Rect.unit ![4, 0, 0] ![1, 128, 256] inb_S8x128x256_S1x128x256_4_0_0, p4⟩,
      ⟨Rect.unit ![3, 0, 0] ![1, 128, 256] inb_S8x128x256_S1x128x256_3_0_0, p3⟩,
      ⟨Rect.unit ![2, 0, 0] ![1, 128, 256] inb_S8x128x256_S1x128x256_2_0_0, p2⟩,
      ⟨Rect.unit ![1, 0, 0] ![1, 128, 256] inb_S8x128x256_S1x128x256_1_0_0, p1⟩,
      ⟨Rect.unit ![0, 0, 0] ![1, 128, 256] inb_S8x128x256_S1x128x256_0_0_0, p0⟩,
      ⟨Rect.unit ![0, 0, 0] ![8, 128, 256] inb_S8x128x256_S8x128x256_0_0_0, f⟩] (Rect.unit ![0, 0, 0] ![8, 128, 256] inb_S8x128x256_S8x128x256_0_0_0).toLoadRect
    = fun x => View.canon (Val := Elt Ideal) (e := .f32)
      ([⟨Rect.unit ![7, 0, 0] ![1, 128, 256] inb_S8x128x256_S1x128x256_7_0_0, p7⟩,
      ⟨Rect.unit ![6, 0, 0] ![1, 128, 256] inb_S8x128x256_S1x128x256_6_0_0, p6⟩,
      ⟨Rect.unit ![5, 0, 0] ![1, 128, 256] inb_S8x128x256_S1x128x256_5_0_0, p5⟩,
      ⟨Rect.unit ![4, 0, 0] ![1, 128, 256] inb_S8x128x256_S1x128x256_4_0_0, p4⟩,
      ⟨Rect.unit ![3, 0, 0] ![1, 128, 256] inb_S8x128x256_S1x128x256_3_0_0, p3⟩,
      ⟨Rect.unit ![2, 0, 0] ![1, 128, 256] inb_S8x128x256_S1x128x256_2_0_0, p2⟩,
      ⟨Rect.unit ![1, 0, 0] ![1, 128, 256] inb_S8x128x256_S1x128x256_1_0_0, p1⟩,
      ⟨Rect.unit ![0, 0, 0] ![1, 128, 256] inb_S8x128x256_S1x128x256_0_0_0, p0⟩] : List (View.Piece (Elt Ideal) S8x128x256 .f32)) x := by
  rw [readCov_ld]
  refine (View.ld_unit_lit _ _ (by decide)).trans (funext fun x => canon_append (heads p0 p1 p2 p3 p4 p5 p6 p7) [⟨Rect.unit ![0, 0, 0] ![8, 128, 256] inb_S8x128x256_S8x128x256_0_0_0, f⟩] x ?_)
  have h0 : (x 0).val < 8 := (x 0).isLt
  have h1 : (x 1).val < 128 := (x 1).isLt
  have h2 : (x 2).val < 256 := (x 2).isLt
  rcases (by omega : (x 0).val = 0 ∨ (x 0).val = 1 ∨ (x 0).val = 2 ∨ (x 0).val = 3 ∨ (x 0).val = 4 ∨ (x 0).val = 5 ∨ (x 0).val = 6 ∨ (x 0).val = 7)
    with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_unit3 ![0, 0, 0] ![1, 128, 256] inb_S8x128x256_S1x128x256_0_0_0 x ⟨by show 0 ≤ (x 0).val; omega, by show (x 0).val < 0 + 1; omega⟩ ⟨Nat.zero_le _, h1⟩ ⟨Nat.zero_le _, h2⟩⟩
  · exact ⟨_, List.mem_cons_of_mem _ (List.mem_cons_of_mem _ (List.mem_cons_of_mem _ (List.mem_cons_of_mem _ (List.mem_cons_of_mem _ (List.mem_cons_of_mem _ (List.mem_cons_self)))))), mem_unit3 ![1, 0, 0] ![1, 128, 256] inb_S8x128x256_S1x128x256_1_0_0 x ⟨by show 1 ≤ (x 0).val; omega, by show (x 0).val < 1 + 1; omega⟩ ⟨Nat.zero_le _, h1⟩ ⟨Nat.zero_le _, h2⟩⟩
  · exact ⟨_, List.mem_cons_of_mem _ (List.mem_cons_of_mem _ (List.mem_cons_of_mem _ (List.mem_cons_of_mem _ (List.mem_cons_of_mem _ (List.mem_cons_self))))), mem_unit3 ![2, 0, 0] ![1, 128, 256] inb_S8x128x256_S1x128x256_2_0_0 x ⟨by show 2 ≤ (x 0).val; omega, by show (x 0).val < 2 + 1; omega⟩ ⟨Nat.zero_le _, h1⟩ ⟨Nat.zero_le _, h2⟩⟩
  · exact ⟨_, List.mem_cons_of_mem _ (List.mem_cons_of_mem _ (List.mem_cons_of_mem _ (List.mem_cons_of_mem _ (List.mem_cons_self)))), mem_unit3 ![3, 0, 0] ![1, 128, 256] inb_S8x128x256_S1x128x256_3_0_0 x ⟨by show 3 ≤ (x 0).val; omega, by show (x 0).val < 3 + 1; omega⟩ ⟨Nat.zero_le _, h1⟩ ⟨Nat.zero_le _, h2⟩⟩
  · exact ⟨_, List.mem_cons_of_mem _ (List.mem_cons_of_mem _ (List.mem_cons_of_mem _ (List.mem_cons_self))), mem_unit3 ![4, 0, 0] ![1, 128, 256] inb_S8x128x256_S1x128x256_4_0_0 x ⟨by show 4 ≤ (x 0).val; omega, by show (x 0).val < 4 + 1; omega⟩ ⟨Nat.zero_le _, h1⟩ ⟨Nat.zero_le _, h2⟩⟩
  · exact ⟨_, List.mem_cons_of_mem _ (List.mem_cons_of_mem _ (List.mem_cons_self)), mem_unit3 ![5, 0, 0] ![1, 128, 256] inb_S8x128x256_S1x128x256_5_0_0 x ⟨by show 5 ≤ (x 0).val; omega, by show (x 0).val < 5 + 1; omega⟩ ⟨Nat.zero_le _, h1⟩ ⟨Nat.zero_le _, h2⟩⟩
  · exact ⟨_, List.mem_cons_of_mem _ (List.mem_cons_self), mem_unit3 ![6, 0, 0] ![1, 128, 256] inb_S8x128x256_S1x128x256_6_0_0 x ⟨by show 6 ≤ (x 0).val; omega, by show (x 0).val < 6 + 1; omega⟩ ⟨Nat.zero_le _, h1⟩ ⟨Nat.zero_le _, h2⟩⟩
  · exact ⟨_, List.mem_cons_self, mem_unit3 ![7, 0, 0] ![1, 128, 256] inb_S8x128x256_S1x128x256_7_0_0 x ⟨by show 7 ≤ (x 0).val; omega, by show (x 0).val < 7 + 1; omega⟩ ⟨Nat.zero_le _, h1⟩ ⟨Nat.zero_le _, h2⟩⟩

section

variable {pa : S512x6144.Idx → EReal} {pb : S512x5632.Idx → EReal} {st : S16x8x128x256.Idx → EReal}

/-- An entry of the new state, as it is computed: the scale is at the keys' decays. -/
theorem st_term {b h h' d e a v : ℕ} (hh : h' = h) (ha : a = h * 128 + d) (hv : v = h * 256 + e) :
    at4 st b h' d e * ((Real.exp (lg h * 32) : ℝ) : EReal)
      + ∑ j : Fin 32, at2 pb (b * 32 + j.val) (4096 + a) * ((Real.exp (lg h * (31 - (j.val : ℝ))) * scale : ℝ) : EReal)
          * at2 pa (b * 32 + j.val) v = newSt pa pb st b h d e := by
  subst hh ha hv
  unfold newSt
  congr 1
  refine Finset.sum_congr rfl fun j _ => ?_
  rw [mul_comm (Real.exp _) scale, EReal.coe_mul]
  simp only [mul_assoc]

end

/-- The new state of a point's batch, as the buffer holds it. -/
def stT (c : Dev nD) (t : Fin cfg0.N) : S8x128x256.Idx → EReal := fun x =>
  newSt (A0 m c) (A1 m c) (A5 m c) t.val (x 0).val (x 1).val (x 2).val

/-- The state's block, where the tables are kept from the point before. -/
theorem stB (c : Dev nD) (t : Fin cfg0.N) (ht : ¬ t.val % 16 = 0) (y : S1x8x128x256.Idx) :
    (outsAt0 m c t.val t.isLt).2.2.1 y = newSt (A0 m c) (A1 m c) (A5 m c) t.val (y 1).val (y 2).val (y 3).val := by
  rw [outsAt0_B m c t ht]
  frame_out
  have T := tables m c (t.val - 1) (by omega)
  simp only [read_unread_whole, T.2.2.2]
  simp (decide := true) only [↓View.readCov_skip, ↓View.readCov_fill]
  rw [state_read]
  have P := named_pow
  refine (congrArg (fun Z => k0_pay1 (F := Ideal) Z y) (funext fun z => ?_ : _ = stT m c t)).trans ?_
  case refine_2 =>
    unfold_payloads
    pointwise [stT]
  canon_tiles x h
  all_goals unfold_payloads
  all_goals pointwise [keyT]
  all_goals simp only [P, blk0, blk3, blk7 m c t _ (x 1) (x 2)]
  all_goals
    refine (st_term (by omega) (by omega) (by omega)).trans ?_
    unfold stT
    rw [h1, h2]
    exact congrArg (fun h => newSt (A0 m c) (A1 m c) (A5 m c) t.val h (x 1).val (x 2).val) (by omega)

/-- The state's block at the first point, which writes the tables. -/
theorem stA (c : Dev nD) (t : Fin cfg0.N) (ht : t.val % 16 = 0) (y : S1x8x128x256.Idx) :
    (outsAt0 m c t.val t.isLt).2.2.1 y = newSt (A0 m c) (A1 m c) (A5 m c) t.val (y 1).val (y 2).val (y 3).val := by
  have hk := key_fill m c t ht
  revert hk
  rw [outsAt0_A m c t ht]
  frame_out
  intro hk
  simp only [readCov_ld (View.whole cc0_scratch5), hk]
  simp (decide := true) only [↓View.readCov_skip, ↓View.readCov_fill]
  rw [state_read]
  have P := named_pow
  refine (congrArg (fun Z => k0_pay1 (F := Ideal) Z y) (funext fun z => ?_ : _ = stT m c t)).trans ?_
  case refine_2 =>
    unfold_payloads
    pointwise [stT]
  canon_tiles x h
  all_goals unfold_payloads
  all_goals pointwise [keyT]
  all_goals simp only [P, blk0, blk3, blk7 m c t _ (x 1) (x 2)]
  all_goals
    refine (st_term (by omega) (by omega) (by omega)).trans ?_
    unfold stT
    rw [h1, h2]
    exact congrArg (fun h => newSt (A0 m c) (A1 m c) (A5 m c) t.val h (x 1).val (x 2).val) (by omega)

end Cert.KernelIdeal.Result
end
end
-- ==== Proof.Mix.lean ====
/- The first call's results: the attention, the retention and the new state of its six arguments. -/
module

public import proofs.«01_k».proof.Proof.Attn
public import proofs.«01_k».proof.Proof.Ret
public import proofs.«01_k».proof.Proof.St

@[expose] public section

set_option maxRecDepth 16384

noncomputable section

namespace Cert.KernelIdeal.Result

open Cert.KernelIdeal Cert.KernelIdeal.Gen Cert.Alg Cert.Spec Idealize.ShloMosaic Idealize.ShloMosaic.TcCoe Idealize.SL.Sem

variable (m : (ℓ : Loc nD τ sig) → Buf (Elt Ideal) ℓ)

/-- Window 9's block at a point. -/
theorem idx9 : ∀ t : Fin cfg0.N, win0_9.index t = ![t.val, 0] := (by decide +kernel : ∀ t : Fin grid0.N, _)
/-- Window 10's block at a point. -/
theorem idx10 : ∀ t : Fin cfg0.N, win0_10.index t = ![t.val, 0] := (by decide +kernel : ∀ t : Fin grid0.N, _)
/-- Window 11's block at a point. -/
theorem idx11 : ∀ t : Fin cfg0.N, win0_11.index t = ![t.val, 0, 0, 0] := (by decide +kernel : ∀ t : Fin grid0.N, _)

/-- The first result's array is the attention. -/
theorem final9 (c : Dev nD) (R : Reals (A1 m c) (A2 m c) (A3 m c)) :
    (dats m 0 c).arrAt 9 cfg0.N = attention (A1 m c) (A2 m c) (A3 m c) (A4 m c) := by
  refine (dats m 0 c).arrAt_eq_of_covers 9 _ (by decide +kernel) fun t hf y => ?_
  blk_simp
  have e : (outsAt0 m c t.val t.isLt).1 y = attn (A1 m c) (A2 m c) (A3 m c) (A4 m c) t.val ((y 1).val / 64) (y 0).val ((y 1).val % 64) := by
    by_cases ht : t.val % 16 = 0
    · exact attnA m c R t ht y
    · exact attnB m c R t ht y
  rw [after0_9, e]
  have h0 : (y 0).val < 32 := (y 0).isLt
  have h1 : (y 1).val < 1024 := (y 1).isLt
  have ht : t.val < 16 := t.isLt
  have i : (win0_9.blk t).view.emb y = (Idealize.ShloMosaic.ix2 ⟨t.val * 32 + (y 0).val, by omega⟩ ⟨(y 1).val, h1⟩ : S512x1024.Idx) := by
    blk_ext [idx9 t]
  rw [i]
  show _ = attn _ _ _ _ ((t.val * 32 + (y 0).val) / 32) ((y 1).val / 64) ((t.val * 32 + (y 0).val) % 32) ((y 1).val % 64)
  rw [show (t.val * 32 + (y 0).val) / 32 = t.val by omega, show (t.val * 32 + (y 0).val) % 32 = (y 0).val by omega]

/-- The second result's array is the retention. -/
theorem final10 (c : Dev nD) : (dats m 0 c).arrAt 10 cfg0.N = retention (A0 m c) (A1 m c) (A5 m c) := by
  refine (dats m 0 c).arrAt_eq_of_covers 10 _ (by decide +kernel) fun t hf y => ?_
  blk_simp
  have e : (outsAt0 m c t.val t.isLt).2.1 y
      = normed (ret (A0 m c) (A1 m c) (A5 m c) t.val ((y 1).val / 256) (y 0).val) ((y 1).val % 256) := by
    by_cases ht : t.val % 16 = 0
    · exact retA m c t ht y
    · exact retB m c t ht y
  rw [after0_10, e]
  have h0 : (y 0).val < 32 := (y 0).isLt
  have h1 : (y 1).val < 2048 := (y 1).isLt
  have ht : t.val < 16 := t.isLt
  have i : (win0_10.blk t).view.emb y = (Idealize.ShloMosaic.ix2 ⟨t.val * 32 + (y 0).val, by omega⟩ ⟨(y 1).val, h1⟩ : S512x2048.Idx) := by
    blk_ext [idx10 t]
  rw [i]
  show _ = normed (ret _ _ _ ((t.val * 32 + (y 0).val) / 32) ((y 1).val / 256) ((t.val * 32 + (y 0).val) % 32)) ((y 1).val % 256)
  rw [show (t.val * 32 + (y 0).val) / 32 = t.val by omega, show (t.val * 32 + (y 0).val) % 32 = (y 0).val by omega]

/-- The third result's array is the new state. -/
theorem final11 (c : Dev nD) : (dats m 0 c).arrAt 11 cfg0.N = newState (A0 m c) (A1 m c) (A5 m c) := by
  refine (dats m 0 c).arrAt_eq_of_covers 11 _ (by decide +kernel) fun t hf y => ?_
  blk_simp
  have e : (outsAt0 m c t.val t.isLt).2.2.1 y = newSt (A0 m c) (A1 m c) (A5 m c) t.val (y 1).val (y 2).val (y 3).val := by
    by_cases ht : t.val % 16 = 0
    · exact stA m c t ht y
    · exact stB m c t ht y
  rw [after0_11, e]
  have h0 : (y 0).val < 1 := (y 0).isLt
  have i : (win0_11.blk t).view.emb y = (Idealize.ShloMosaic.ix4 ⟨t.val, t.isLt⟩ ⟨(y 1).val, (y 1).isLt⟩ ⟨(y 2).val, (y 2).isLt⟩ ⟨(y 3).val, (y 3).isLt⟩ : S16x8x128x256.Idx) := by
    blk_ext [idx11 t]
  rw [i]
  rfl

variable (ρ : Dev nD → PrngReg)

/-- Every run of the first call ends with the attention, the retention and the new state as its results, its arguments unchanged. -/
theorem run_result (R : ∀ c : Dev nD, Reals (A1 m c) (A2 m c) (A3 m c)) :
    θ_run defs (onTc (τ := τ) (main (F := Ideal))) ⟨m, fun _ => 0, ρ⟩ fun r => ∀ c : Dev nD,
      r.2.mem ((c : Thread nD τ).loc main_v0_0) = attention (A1 m c) (A2 m c) (A3 m c) (A4 m c)
      ∧ r.2.mem ((c : Thread nD τ).loc main_v0_1) = retention (A0 m c) (A1 m c) (A5 m c)
      ∧ r.2.mem ((c : Thread nD τ).loc main_v0_2) = newState (A0 m c) (A1 m c) (A5 m c) :=
  (θ_run defs _ _).mono (fun r h c => ⟨((h c).1 9).trans (final9 m c (R c)), ((h c).1 10).trans (final10 m c), ((h c).1 11).trans (final11 m c)⟩)
    (run_main m ρ)

end Cert.KernelIdeal.Result
end
end
-- ==== Proof.RefMix.lean ====
/- The reference of the attention and the retention: each result's entries, over the reals. -/
module

public import proofs.«01_k».proof.Proof.Gen.ReferenceIdeal.Run
public import proofs.«01_k».proof.Proof.Spec
public import Idealize.ShloMosaic.Lib.Pipeline.ValueKit

@[expose] public section

set_option maxRecDepth 16384

noncomputable section

namespace Cert.ReferenceIdeal.Result

open Cert.Alg Cert.Spec Cert.ReferenceIdeal Cert.ReferenceIdeal.Gen Cert.ReferenceIdeal.Value Idealize.ShloMosaic Idealize.ShloMosaic.TcCoe Idealize.SL.Sem

variable (V0 : Valuation τ sig (Elt Ideal))

/-- The first half of the projection. -/
abbrev B0 : S512x6144.Idx → EReal := V0 (Proc.devRef .tc main_arg0)
/-- The second half of the projection. -/
abbrev B1 : S512x5632.Idx → EReal := V0 (Proc.devRef .tc main_arg1)
/-- The sinks. -/
abbrev B2 : S16.Idx → EReal := V0 (Proc.devRef .tc main_arg2)
/-- The cache's keys. -/
abbrev B3 : S16x128x256.Idx → EReal := V0 (Proc.devRef .tc main_arg3)
/-- The cache's values. -/
abbrev B4 : S16x128x256.Idx → EReal := V0 (Proc.devRef .tc main_arg4)
/-- The state. -/
abbrev B5 : S16x8x128x256.Idx → EReal := V0 (Proc.devRef .tc main_arg5)

/-- A projected entry of token `i` of batch `b`. -/
theorem proj_at (b : Fin 16) (i : Fin 32) (n : Fin 5632) :
    (res_main_v3 V0 : S16x32x5632.Idx → EReal) (Idealize.ShloMosaic.ix3 b i n) = at2 (B1 V0) (b.val * 32 + i.val) n.val := by
  pointwise [res_main_v3]
  exact at2_ix (B1 V0) _ _

/-- A head's log decay. -/
theorem lg_at (h : Fin 8) : (res_main_v79 V0 : S8.Idx → EReal) (Idealize.ShloMosaic.ix1 h) = (lg h.val : EReal) := by
  pointwise [res_main_v79]
  rw [ofBits_2, ofBits_neg_5, sitofp_small _ (by omega), ← log_lg h.val, EReal.coe_one]

/-- The retention's queries. -/
theorem query_at (b : Fin 16) (i : Fin 32) (h : Fin 8) (d : Fin 128) :
    (res_main_v80 V0 : S16x32x8x128.Idx → EReal) (Idealize.ShloMosaic.ix4 b i h d) = at2 (B1 V0) (b.val * 32 + i.val) (3072 + (h.val * 128 + d.val)) := by
  pointwise [res_main_v80]
  exact proj_at V0 _ _ _

/-- The retention's keys, scaled. -/
theorem key_at (b : Fin 16) (i : Fin 32) (h : Fin 8) (d : Fin 128) :
    (res_main_v83 V0 : S16x32x8x128.Idx → EReal) (Idealize.ShloMosaic.ix4 b i h d)
      = at2 (B1 V0) (b.val * 32 + i.val) (4096 + (h.val * 128 + d.val)) * (scale : EReal) := by
  pointwise [res_main_v83]
  rw [ofBits_scale]
  exact congrArg (· * (scale : EReal)) (proj_at V0 _ _ _)

/-- The retention's values. -/
theorem val_at (b : Fin 16) (i : Fin 32) (h : Fin 8) (e : Fin 256) :
    (res_main_v84 V0 : S16x32x8x256.Idx → EReal) (Idealize.ShloMosaic.ix4 b i h e) = at2 (B0 V0) (b.val * 32 + i.val) (h.val * 256 + e.val) := by
  pointwise [res_main_v84]
  exact at2_ix (B0 V0) _ _

/-- A token's number. -/
theorem tok_at (i : Fin 32) : (res_main_v86 V0 : S32.Idx → EReal) (Idealize.ShloMosaic.ix1 i) = (((i.val : ℕ) : ℝ) : EReal) := by
  pointwise [res_main_v86]
  exact sitofp_small _ (by omega)

/-- The difference of two tokens. -/
theorem diff_at (i j : Fin 32) : (res_main_v91 V0 : S32x32.Idx → EReal) (Idealize.ShloMosaic.ix2 i j) = (((i.val : ℝ) - (j.val : ℝ) : ℝ) : EReal) := by
  pointwise [res_main_v91]
  rw [tok_at, tok_at]
  rfl

/-- The retention before the normalisation. -/
theorem ret_at (b : Fin 16) (i : Fin 32) (h : Fin 8) (e : Fin 256) :
    (res_main_v141 V0 : S16x32x8x256.Idx → EReal) (Idealize.ShloMosaic.ix4 b i h e) = ret (B0 V0) (B1 V0) (B5 V0) b.val h.val i.val e.val := by
  have z : ((id (constant (F := Ideal) S_ .f32 0#32) : S_.Idx → EReal)) Idealize.ShloMosaic.ix0 = (0 : EReal) := by
    show Ideal.ofBits FTy.f32 0#32 = 0
    simp [Ideal.ofBits, Ideal.ieee]
  have st : ∀ x : Fin 128, (V0 (Proc.devRef .tc main_arg5) : S16x8x128x256.Idx → EReal) (Idealize.ShloMosaic.ix4 b h x e)
      = at4 (B5 V0) b.val h.val x.val e.val := fun x => at4_ix (B5 V0) b h x e
  pointwise [res_main_v141]
  simp only [val_at, query_at, key_at, lg_at, tok_at, diff_at, z, st, decay_value, cross_value]
  rfl

/-- The third result is the new state. -/
theorem state_eq : (val4 V0 (no_index (Proc.devRef .tc main_v140)) : S16x8x128x256.Idx → EReal) = newState (B0 V0) (B1 V0) (B5 V0) := by
  funext x
  rw [val4_main_v140]
  pointwise [newState]
  rw [ofBits_31, ofBits_32, lg_at V0 (x 1)]
  simp only [val_at V0 (x 0) _ (x 1) (x 3), key_at V0 (x 0) _ (x 1) (x 2), tok_at, rest_value]
  rw [← EReal.coe_mul, Ideal.exp_coe]
  exact congrArg (· * _ + _) (at4_idx (B5 V0) x)

/-- The second result is the retention. -/
theorem retention_eq : (val4 V0 (no_index (Proc.devRef .tc main_v160)) : S512x2048.Idx → EReal) = retention (B0 V0) (B1 V0) (B5 V0) := by
  funext x
  rw [val4_main_v160]
  pointwise [res_main_v147, retention]
  simp only [ret_at]
  rfl

/-- A head's sink. -/
theorem sink_at (hk g : Fin 4) : (res_main_v50 V0 : S4x4x1x1.Idx → EReal) (Idealize.ShloMosaic.ix4 hk g 0 0) = at1 (B2 V0) (hk.val * 4 + g.val) := by
  pointwise [res_main_v50]
  exact at1_ix (B2 V0) _

/-- A score. -/
theorem score_at (b : Fin 16) (hk g : Fin 4) (q : Fin 32) (k : Fin 160) :
    (res_main_v49 V0 : S16x4x4x32x160.Idx → EReal) (Idealize.ShloMosaic.ix5 b hk g q k)
      = score (B1 V0) (B3 V0) b.val (hk.val * 4 + g.val) q.val k.val := by
  have p := pow_slope (hk.val * 4 + g.val)
  rw [EReal.coe_one] at p
  have hd : (hk.val * 4 + g.val) / 4 = hk.val := by omega
  pointwise [res_main_v49]
  rw [ofBits_eighth, ofBits_2, ofBits_neg_8, ofBits_16, sitofp_small _ (by omega), sitofp_gap _ _ q.isLt k.isLt, p, score, hd,
    sub_eq_add_neg, ← EReal.coe_mul, ← EReal.coe_neg, neg_mul]
  refine congrArg₂ (· + ·) (congrArg (· * _) (Finset.sum_congr rfl fun d _ => ?_)) rfl
  refine congrArg₂ (· * ·) ?_ ?_
  · unfold key
    split
    · exact at3_ix (B3 V0) b ⟨k.val, _⟩ ⟨hk.val * 64 + d.val, _⟩
    · exact proj_at V0 b ⟨k.val - 128, _⟩ ⟨5120 + (hk.val * 64 + d.val), _⟩
  · rw [proj_at]
    refine congrArg (at2 (B1 V0) _) ?_
    dsimp only; omega

/-- The largest of a query's scores and its head's sink. -/
theorem peak_at (b : Fin 16) (hk g : Fin 4) (q : Fin 32) (o : Fin 1) :
    (res_main_v55 V0 : S16x4x4x32x1.Idx → EReal) (Idealize.ShloMosaic.ix5 b hk g q o)
      = (max (Finset.univ.fold max ⊥ fun k : Fin 160 => score (B1 V0) (B3 V0) b.val (hk.val * 4 + g.val) q.val k.val)
          (at1 (B2 V0) (hk.val * 4 + g.val)) : EReal) := by
  pointwise [res_main_v55]
  rw [sink_at, ofBits_neg_inf]
  refine congrArg (fun z : EReal => max z (at1 (B2 V0) (hk.val * 4 + g.val))) ((Shape.ReducesTo.fold_fiber_r5_a4 reducesTo_S16x4x4x32x160_S16x4x4x32_d4 (Idealize.ShloMosaic.ix4 b hk g q) (max : EReal → EReal → EReal) ⊥
    (res_main_v49 V0 : S16x4x4x32x160.Idx → EReal)).trans ?_)
  exact congrArg (Finset.univ.fold max (⊥ : EReal)) (funext fun k => score_at V0 b hk g q k)

/-- A score's exponential, under the largest. -/
theorem weight_at (b : Fin 16) (hk g : Fin 4) (q : Fin 32) (k : Fin 160) :
    (res_main_v58 V0 : S16x4x4x32x160.Idx → EReal) (Idealize.ShloMosaic.ix5 b hk g q k)
      = Ideal.exp (score (B1 V0) (B3 V0) b.val (hk.val * 4 + g.val) q.val k.val
          - max (Finset.univ.fold max ⊥ fun k : Fin 160 => score (B1 V0) (B3 V0) b.val (hk.val * 4 + g.val) q.val k.val)
              (at1 (B2 V0) (hk.val * 4 + g.val))) := by
  pointwise [res_main_v58]
  rw [score_at, peak_at]

end Cert.ReferenceIdeal.Result
end
end
-- ==== Proof.RefAttn.lean ====
/- The reference's first result is the attention, over the reals. -/
module

public import proofs.«01_k».proof.Proof.RefMix
public import proofs.«01_k».proof.Proof.Spec
public import Idealize.ShloMosaic.Lib.Pipeline.ValueKit

@[expose] public section

set_option maxRecDepth 16384

noncomputable section

namespace Cert.ReferenceIdeal.Result

open Cert.Alg Cert.Spec Cert.ReferenceIdeal Cert.ReferenceIdeal.Gen Cert.ReferenceIdeal.Value Idealize.ShloMosaic Idealize.ShloMosaic.TcCoe Idealize.SL.Sem

variable (V0 : Valuation τ sig (Elt Ideal))

set_option maxHeartbeats 2000000 in
/-- The first result is the attention. -/
theorem attention_eq : (val4 V0 (no_index (Proc.devRef .tc main_v159)) : S512x1024.Idx → EReal) = attention (B1 V0) (B2 V0) (B3 V0) (B4 V0) := by
  funext x
  have h0 : (x 0).val < 512 := (x 0).isLt
  have h1 : (x 1).val < 1024 := (x 1).isLt
  have hh : (x 1).val / 256 * 4 + (x 1).val / 64 % 4 = (x 1).val / 64 := by omega
  have hd : (x 1).val / 64 / 4 = (x 1).val / 256 := by omega
  rw [val4_main_v159]
  pointwise [attention]
  simp only [weight_at, peak_at, sink_at, hh]
  refine Eq.trans ?_ (weighted_split (score (B1 V0) (B3 V0) ((x 0).val / 32) ((x 1).val / 64) ((x 0).val % 32))
    (fun k => val (B1 V0) (B4 V0) ((x 0).val / 32) k ((x 1).val / 64 / 4 * 64 + (x 1).val % 64)) (at1 (B2 V0) ((x 1).val / 64))).symm
  rw [hd]
  refine congrArg₂ (· + ·) (Finset.sum_congr rfl fun k _ => congrArg (· * _) ?_) (Finset.sum_congr rfl fun k _ => congrArg (· * _) ?_)
  · exact (at3_ix (B4 V0) ⟨(x 0).val / 32, by omega⟩ k ⟨(x 1).val / 256 * 64 + (x 1).val % 64, by omega⟩).trans
      (val_cache (B1 V0) (B4 V0) _ _ _ k.isLt).symm
  · exact (proj_at V0 ⟨(x 0).val / 32, by omega⟩ k ⟨5376 + ((x 1).val / 256 * 64 + (x 1).val % 64), by omega⟩).trans
      (val_block (B1 V0) (B4 V0) ((x 0).val / 32) k.val ((x 1).val / 256 * 64 + (x 1).val % 64)).symm

end Cert.ReferenceIdeal.Result
end
end
-- ==== Proof.Pre.lean ====
/- The precondition of the first call's value claim: what it says of the arrays. -/
module

public import proofs.«01_k».proof.Defs
public import proofs.«01_k».proof.Proof.Spec
public import Idealize.ShloMosaic.Lib.Pipeline.ValueKit

@[expose] public section

set_option maxRecDepth 16384

noncomputable section

namespace Cert.Pre_attention_scores_real

open Cert.Alg Cert.Spec Idealize.ShloMosaic

/-- The shapes that the precondition slices and broadcasts fit. -/
instance facts : Cert.Pre_attention_scores_real.Facts where
  slices_S512x5632_S512x1024_0_2048 := by decide
  bitsLt_bf16_f32 := by decide
  slices_S512x5632_S512x256_0_5120 := by decide
  bcast_S_S512x1024 := by decide
  bcast_S_S512x256 := by decide
  bcast_S_S16 := by decide
  bcast_S_S16x128x256 := by decide

/-- A magnitude that compares below infinity is a real number's. -/
theorem real_of_cmp {x : EReal} (h : BitVec.ofBool (decide ((FloatOps.absf (F := Ideal) (φ := .f32) x : EReal) < Ideal.ofBits FTy.f32 2139095040#32)) = 1#1) : IsReal x := by
  have top : Ideal.ofBits FTy.f32 2139095040#32 = ⊤ := by simp [Ideal.ofBits, Ideal.ieee]
  rw [top] at h
  by_cases hl : (FloatOps.absf (F := Ideal) (φ := .f32) x : EReal) < ⊤
  · exact IsReal.of_abs hl
  · simp [hl] at h

variable (a0 : S512x6144.Idx → EReal) (a1 : S512x5632.Idx → EReal) (a2 : S16.Idx → EReal) (a3 a4 : S16x128x256.Idx → EReal) (a5 : S16x8x128x256.Idx → EReal)

/-- The precondition makes the queries, the keys and the sinks real numbers. -/
theorem reals (h0 : (fn (F := Ideal) a0 a1 a2 a3 a4 a5).1 = fun _ => 1#1) (h1 : (fn (F := Ideal) a0 a1 a2 a3 a4 a5).2.1 = fun _ => 1#1)
    (h2 : (fn (F := Ideal) a0 a1 a2 a3 a4 a5).2.2.1 = fun _ => 1#1) (h3 : (fn (F := Ideal) a0 a1 a2 a3 a4 a5).2.2.2 = fun _ => 1#1) : Reals a1 a2 a3 where
  query i j hj hj' := by
    unfold at2
    split
    · rename_i hi
      have h := congrFun h0 (Idealize.ShloMosaic.ix2 ⟨i, hi.1⟩ ⟨j - 2048, by omega⟩)
      simp only [fn] at h
      pointwise at h
      simp only [show 2048 + (j - 2048) = j by omega] at h
      exact real_of_cmp h
    · exact IsReal.zero
  blockKey i j hj hj' := by
    unfold at2
    split
    · rename_i hi
      have h := congrFun h1 (Idealize.ShloMosaic.ix2 ⟨i, hi.1⟩ ⟨j - 5120, by omega⟩)
      simp only [fn] at h
      pointwise at h
      simp only [show 5120 + (j - 5120) = j by omega] at h
      exact real_of_cmp h
    · exact IsReal.zero
  cacheKey x := by
    have h := congrFun h3 x
    simp only [fn] at h
    pointwise at h
    exact real_of_cmp h
  sink x := by
    have h := congrFun h2 x
    simp only [fn] at h
    pointwise at h
    exact real_of_cmp h

end Cert.Pre_attention_scores_real
end
end
-- ==== Proof.Ffn.lean ====
/- The feed-forward call: what each block of its result holds, and the array they make. -/
module

public import proofs.«01_k».proof.Proof.Gen.FfnIdeal.Value
public import proofs.«01_k».proof.Proof.Gen.FfnRefIdeal.Read
public import proofs.«01_k».proof.Proof.Gen.FfnRefIdeal.Run
public import Idealize.ShloMosaic.Lib.Pipeline.ValueKit
public import Idealize.ShloMosaic.Lib.Pipeline.ReadBack

@[expose] public section

set_option maxRecDepth 16384

noncomputable section

namespace Cert.FfnIdeal.Result

open Cert.FfnIdeal Cert.FfnIdeal.Gen Cert.FfnIdeal.Value Idealize.ShloMosaic Idealize.ShloMosaic.TcCoe Idealize.SL.Sem

variable (m : (ℓ : Loc nD τ sig) → Buf (Elt Ideal) ℓ)

open Cert.FfnRefIdeal.Read in
/-- The reference's normalised rows. -/
def Nrm (c : Dev nD) : S32768x2048.Idx → EReal := val_main_v13 (F := Ideal) (m ((c : Thread nD τ).loc main_arg0)) (m ((c : Thread nD τ).loc main_arg3))

open Cert.FfnRefIdeal.Read in
/-- The reference's gated inner activations. -/
def Act (c : Dev nD) : (⟨2, ![32768, 5632]⟩ : Shape).Idx → EReal := val_main_v19 (F := Ideal) (m ((c : Thread nD τ).loc main_arg0)) (m ((c : Thread nD τ).loc main_arg1)) (m ((c : Thread nD τ).loc main_arg3))

open Cert.FfnRefIdeal.Read in
/-- The reference's product of the activations with the output weights. -/
def Dn (c : Dev nD) : S32768x2048.Idx → EReal := val_main_v21 (F := Ideal) (m ((c : Thread nD τ).loc main_arg0)) (m ((c : Thread nD τ).loc main_arg1)) (m ((c : Thread nD τ).loc main_arg2)) (m ((c : Thread nD τ).loc main_arg3))

open Cert.FfnRefIdeal.Read in
/-- The reference's result as a function of this call's five arguments. -/
def G (c : Dev nD) : S32768x2048.Idx → EReal := val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- Window 0's block at a point. -/
theorem idx0 : ∀ t : Fin cfg0.N, win0_0.index t = ![t.val / 11, 0] := (by decide +kernel : ∀ t : Fin grid0.N, _)
/-- Window 1's block at a point. -/
theorem idx1 : ∀ t : Fin cfg0.N, win0_1.index t = ![0, t.val % 11] := (by decide +kernel : ∀ t : Fin grid0.N, _)
/-- Window 2's block at a point. -/
theorem idx2 : ∀ t : Fin cfg0.N, win0_2.index t = ![0, t.val % 11 + 11] := (by decide +kernel : ∀ t : Fin grid0.N, _)
/-- Window 3's block at a point. -/
theorem idx3 : ∀ t : Fin cfg0.N, win0_3.index t = ![t.val % 11, 0] := (by decide +kernel : ∀ t : Fin grid0.N, _)
/-- Window 4's block at a point. -/
theorem idx4 : ∀ t : Fin cfg0.N, win0_4.index t = ![0, 0] := (by decide +kernel : ∀ t : Fin grid0.N, _)
/-- Window 5's block at a point. -/
theorem idx5 : ∀ t : Fin cfg0.N, win0_5.index t = ![0, 0] := (by decide +kernel : ∀ t : Fin grid0.N, _)
/-- Window 6's block at a point. -/
theorem idx6 : ∀ t : Fin cfg0.N, win0_6.index t = ![t.val / 11, 0] := (by decide +kernel : ∀ t : Fin grid0.N, _)
/-- The result is written back after the last tile of the inner width. -/
theorem last6 : ∀ t : Fin cfg0.N, (cfg0.win 6).flush t = true → t.val % 11 = 10 := (by decide +kernel : ∀ t : Fin grid0.N, _)
/-- There are 352 points. -/
theorem lt352 (t : Fin cfg0.N) : t.val < 352 := t.isLt

/-- Row `y 0` of row block `r` in the whole array. -/
abbrev at2 (r : ℕ) (hr : r < 32) (y : S1024x2048.Idx) : S32768x2048.Idx :=
  Idealize.ShloMosaic.ix2 ⟨r * 1024 + y 0, by have : (y 0).val < 1024 := (y 0).isLt; omega⟩ (y 1)

/-- The part of the product that inner tile `s` contributes to row block `r`. -/
def term (c : Dev nD) (r s : ℕ) (y : S1024x2048.Idx) : EReal :=
  if h : r < 32 ∧ s < 11 then
    ∑ k : Fin 512, Act m c (Idealize.ShloMosaic.ix2 ⟨r * 1024 + y 0, by have : (y 0).val < 1024 := (y 0).isLt; omega⟩ ⟨s * 512 + k, by omega⟩)
      * m ((c : Thread nD τ).loc main_arg2) (Idealize.ShloMosaic.ix2 ⟨s * 512 + k, by omega⟩ (y 1))
  else 0

/-- Summed over the eleven tiles, the parts are the whole product. -/
theorem sum_term (c : Dev nD) (r : ℕ) (hr : r < 32) (y : S1024x2048.Idx) :
    ∑ s ∈ Finset.range 11, term m c r s y = Dn m c (at2 r hr y) := by
  open Cert.FfnRefIdeal.Read in
  pointwise [Dn, val_main_v21, val_main_v20]
  rw [← Fin.sum_univ_eq_sum_range (fun s => term m c r s y) 11]
  simp only [term, hr, Fin.is_lt, and_self, dite_true]
  refine Fin.sum_mul_add_congr fun s k hl => ?_
  rfl

/-- The scratch holds the row block's normalised rows after every point. -/
theorem scr (c : Dev nD) : ∀ (n : ℕ) (hn : n < cfg0.N) (y : S1024x2048.Idx),
    (outsAt0 m c n hn).2 y = Nrm m c (at2 (n / 11) (by have := lt352 ⟨n, hn⟩; simp only at this; omega) y) := by
  intro n
  induction n using Nat.strong_induction_on with
  | _ n ih =>
    intro hn y
    by_cases h0 : n % 11 = 0
    · rw [outsAt0_A m c ⟨n, hn⟩ h0 (by simp only; omega) (by simp only; omega)]
      open Cert.FfnRefIdeal.Read in
      frame_out
      unfold at2
      canon_tiles x h
      all_goals unfold_payloads
      all_goals pointwise [Nrm, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
      all_goals blk_point [iblk, V, idx0 ⟨n, hn⟩, idx4 ⟨n, hn⟩]
    · have key : (outsAt0 m c n hn).2 = (outsAt0 m c (n - 1) (by omega)).2 := by
        by_cases h2 : n % 11 = 10
        · rw [outsAt0_C m c ⟨n, hn⟩ h0 (by simp only; omega) h2]; rfl
        · rw [outsAt0_B m c ⟨n, hn⟩ h0 (by simp only; omega) h2]; rfl
      rw [key, ih (n - 1) (by omega)]
      have e : (n - 1) / 11 = n / 11 := by omega
      simp only [at2, e]

/-- What one point adds, in the reference's words: the tile's part of the product. -/
theorem part_eq (c : Dev nD) (t : Fin cfg0.N) (y : S1024x2048.Idx) (r s : ℕ) (hr : t.val / 11 = r) (hs : t.val % 11 = s) :
    term m c r s y = ∑ k : Fin 512,
      ((∑ d : Fin 2048, Nrm m c (at2 (t.val / 11) (by have := lt352 t; omega) (Idealize.ShloMosaic.ix2 (y 0) d)) * iblk m c 1 t (Idealize.ShloMosaic.ix2 d k))
        * Ideal.div 1 (1 + Ideal.exp (- ∑ d : Fin 2048, Nrm m c (at2 (t.val / 11) (by have := lt352 t; omega) (Idealize.ShloMosaic.ix2 (y 0) d)) * iblk m c 1 t (Idealize.ShloMosaic.ix2 d k)))
        * (∑ d : Fin 2048, Nrm m c (at2 (t.val / 11) (by have := lt352 t; omega) (Idealize.ShloMosaic.ix2 (y 0) d)) * iblk m c 2 t (Idealize.ShloMosaic.ix2 d k)))
      * iblk m c 3 t (Idealize.ShloMosaic.ix2 k (y 1)) := by
  subst hr hs
  have h := lt352 t
  rw [term, dif_pos ⟨by omega, by omega⟩]
  refine Finset.sum_congr rfl fun k _ => ?_
  open Cert.FfnRefIdeal.Read in
  pointwise [Act, val_main_v19, val_main_v18, val_main_call0_v5, val_main_call0_v4, val_main_call0_cst_0, val_main_call0_v3, val_main_call0_v2, val_main_call0_cst, val_main_call0_v1, val_main_call0_v0, val_main_v17, val_main_v16, val_main_v15, val_main_v14]
  simp only [Nrm, at2]
  blk_point [iblk, V, idx1 t, idx2 t, idx3 t]

/-- Before the last tile the output block holds the sum of the parts so far. -/
theorem acc (c : Dev nD) : ∀ (n : ℕ) (hn : n < cfg0.N), n % 11 ≠ 10 → ∀ y : S1024x2048.Idx,
    (outsAt0 m c n hn).1 y = ∑ s ∈ Finset.range (n % 11 + 1), term m c (n / 11) s y := by
  intro n
  induction n using Nat.strong_induction_on with
  | _ n ih =>
    intro hn h2 y
    have hb := lt352 ⟨n, hn⟩
    simp only at hb
    by_cases h0 : n % 11 = 0
    · have hr : ∑ s ∈ Finset.range (n % 11 + 1), term m c (n / 11) s y = term m c (n / 11) 0 y := by
        rw [h0, zero_add, Finset.sum_range_one]
      rw [hr, part_eq m c ⟨n, hn⟩ y _ 0 rfl h0, outsAt0_A m c ⟨n, hn⟩ h0 (by simp only; omega) (by simp only; omega)]
      simp only [at2]
      open Cert.FfnRefIdeal.Read in
      frame_out
      canon_tiles x h
      all_goals simp only [View.readCov_cons_toLoadRect]
      all_goals unfold_payloads
      all_goals pointwise [Nrm, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
      all_goals simp only [zero_sub]
      all_goals blk_point [iblk, V, idx0 ⟨n, hn⟩, idx1 ⟨n, hn⟩, idx2 ⟨n, hn⟩, idx3 ⟨n, hn⟩, idx4 ⟨n, hn⟩]
    · rw [outsAt0_B m c ⟨n, hn⟩ h0 (by simp only; omega) h2, Finset.sum_range_succ, part_eq m c ⟨n, hn⟩ y _ _ rfl rfl]
      have e : (n - 1) / 11 = n / 11 := by omega
      have e' : (n - 1) % 11 + 1 = n % 11 := by omega
      have hi := ih (n - 1) (by omega) (by omega) (by omega) y
      rw [e', e] at hi
      rw [← hi]
      have hs := scr m c (n - 1) (by omega)
      frame_out
      simp only [Idealize.ShloMosaic.read_unread_whole]
      unfold_payloads
      pointwise []
      simp only [hs, at2, e, zero_sub]

/-- After the last tile the output block holds the reference's rows. -/
theorem out (c : Dev nD) (n : ℕ) (hn : n < cfg0.N) (h2 : n % 11 = 10) (y : S1024x2048.Idx) :
    (outsAt0 m c n hn).1 y = G m c (at2 (n / 11) (by have := lt352 ⟨n, hn⟩; simp only at this; omega) y) := by
  have hb := lt352 ⟨n, hn⟩
  simp only at hb
  have e : (n - 1) / 11 = n / 11 := by omega
  have e' : (n - 1) % 11 + 1 = 10 := by omega
  have hs := scr m c (n - 1) (by omega)
  have ha := acc m c (n - 1) (by omega) (by omega)
  have hd : ∀ (a : Fin 1024) (b : Fin 2048), (outsAt0 m c (n - 1) (by omega)).1 (Idealize.ShloMosaic.ix2 a b) + ∑ k : Fin 512,
      ((∑ d : Fin 2048, (outsAt0 m c (n - 1) (by omega)).2 (Idealize.ShloMosaic.ix2 a d) * iblk m c 1 ⟨n, hn⟩ (Idealize.ShloMosaic.ix2 d k))
        * Ideal.div 1 (1 + Ideal.exp (0 - ∑ d : Fin 2048, (outsAt0 m c (n - 1) (by omega)).2 (Idealize.ShloMosaic.ix2 a d) * iblk m c 1 ⟨n, hn⟩ (Idealize.ShloMosaic.ix2 d k)))
        * (∑ d : Fin 2048, (outsAt0 m c (n - 1) (by omega)).2 (Idealize.ShloMosaic.ix2 a d) * iblk m c 2 ⟨n, hn⟩ (Idealize.ShloMosaic.ix2 d k)))
      * iblk m c 3 ⟨n, hn⟩ (Idealize.ShloMosaic.ix2 k b)
      = Cert.FfnRefIdeal.Read.val_main_v21 (F := Ideal) (m ((c : Thread nD τ).loc main_arg0)) (m ((c : Thread nD τ).loc main_arg1)) (m ((c : Thread nD τ).loc main_arg2)) (m ((c : Thread nD τ).loc main_arg3)) (Idealize.ShloMosaic.ix2 ⟨n / 11 * 1024 + a, by omega⟩ b) := by
    intro a b
    have h := sum_term m c (n / 11) (by omega) (Idealize.ShloMosaic.ix2 a b)
    rw [Finset.sum_range_succ _ 10, part_eq m c ⟨n, hn⟩ _ (n / 11) 10 rfl h2] at h
    have ha := acc m c (n - 1) (by omega) (by omega) (Idealize.ShloMosaic.ix2 a b)
    rw [e', e] at ha
    rw [← ha] at h
    simp only [hs, e, zero_sub, at2]
    exact h
  rw [outsAt0_C m c ⟨n, hn⟩ (by simp only; omega) (by simp only; omega) h2]
  open Cert.FfnRefIdeal.Read in
  frame_out
  unfold at2
  canon_tiles x h
  all_goals obtain ⟨p, q, rfl⟩ : ∃ (p : Fin 256) (q : Fin 2048), x = Idealize.ShloMosaic.ix2 p q := ⟨x 0, x 1, eq_ix2 x⟩
  all_goals simp only [ix2_0, ix2_1] at *
  all_goals unfold_payloads
  all_goals simp only [Idealize.ShloMosaic.read_unread_whole]
  all_goals pointwise [G, val_main_v36, val_main_v35, val_main_v34, val_main_v33, val_main_v32, val_main_v31, val_main_v30, val_main_v29, val_main_v28, val_main_cst_4, val_main_v27, val_main_v26, val_main_cst_3, val_main_v25, val_main_v24, val_main_cst_2, val_main_v23, val_main_v22]
  all_goals simp only [hd]
  all_goals blk_point [iblk, V, idx0 ⟨n, hn⟩, idx5 ⟨n, hn⟩]
  all_goals exact h1.symm

/-- The array the call leaves is the reference's. -/
theorem final (c : Dev nD) : (dats m 0 c).arrAt 6 cfg0.N = G m c := by
  refine (dats m 0 c).arrAt_eq_of_covers 6 _ (by decide +kernel) fun t hf y => ?_
  have hb := lt352 t
  have h2 := last6 t hf
  blk_simp
  rw [after0_6, out m c t.val t.isLt h2]
  unfold at2
  blk_point [idx6 t]

end Cert.FfnIdeal.Result
-- ==== Proof.InProjB.lean ====
/- The second half of the input projection: what each block of its two results holds, the arrays they make, and the keys and values that the host lines cut out of the second. -/
module

public import proofs.«01_k».proof.Proof.Gen.InProjBIdeal.Frame
public import proofs.«01_k».proof.Proof.Gen.InProjBRefIdeal.Read
public import proofs.«01_k».proof.Proof.Gen.InProjBRefIdeal.Run
public import Idealize.ShloMosaic.Lib.Pipeline.ValueKit

@[expose] public section

set_option maxRecDepth 16384

noncomputable section

namespace Cert.InProjBIdeal.Result

open Cert.InProjBIdeal Cert.InProjBIdeal.Gen Idealize.ShloMosaic Idealize.ShloMosaic.TcCoe Idealize.SL.Sem

variable (m : (ℓ : Loc nD τ sig) → Buf (Elt Ideal) ℓ)

open Cert.InProjBRefIdeal.Read in
/-- The reference's first result: every projected column. -/
def G0 (c : Dev nD) : S32768x5632.Idx → EReal :=
  val_main_v9 (F := Ideal) (m ((c : Thread nD τ).loc main_arg0)) (m ((c : Thread nD τ).loc main_arg1))

open Cert.InProjBRefIdeal.Read in
/-- The reference's second result: the keys that the prompt leaves in the cache. -/
def G1 (c : Dev nD) : S1x8x128x4x64.Idx → EReal :=
  val_main_v10 (F := Ideal) (m ((c : Thread nD τ).loc main_arg0)) (m ((c : Thread nD τ).loc main_arg1))

open Cert.InProjBRefIdeal.Read in
/-- The reference's third result: the values that the prompt leaves in the cache. -/
def G2 (c : Dev nD) : S1x8x128x4x64.Idx → EReal :=
  val_main_v11 (F := Ideal) (m ((c : Thread nD τ).loc main_arg0)) (m ((c : Thread nD τ).loc main_arg1))

/-- Column `5120 + k` of a row, for `k` one of the last 512 columns. -/
abbrev idx_late (i : S32768x512.Idx) : S32768x5632.Idx := fun a => match a with
  | ⟨0, _⟩ => ⟨(i 0).val, (i 0).isLt⟩
  | ⟨1, _⟩ => ⟨5120 + (i 1).val, by have h1 : (i 1).val < 512 := (i 1).isLt; show 5120 + (i 1).val < 5632; omega⟩

open Cert.InProjBRefIdeal.Read in
/-- The last 512 projected columns, not rounded: the keys, then the values. -/
def KV (c : Dev nD) : S32768x512.Idx → EReal := fun i =>
  val_main_v2 (F := Ideal) (m ((c : Thread nD τ).loc main_arg0)) (m ((c : Thread nD τ).loc main_arg1)) (idx_late i)

/-- Window 0's block at a point. -/
theorem idx0 : ∀ t : Fin cfg0.N, win0_0.index t = ![t.val / 2, 0] := (by decide +kernel : ∀ t : Fin grid0.N, _)
/-- Window 1's block at a point. -/
theorem idx1 : ∀ t : Fin cfg0.N, win0_1.index t = ![0, t.val % 2] := (by decide +kernel : ∀ t : Fin grid0.N, _)
/-- Window 2's block at a point. -/
theorem idx2 : ∀ t : Fin cfg0.N, win0_2.index t = ![t.val / 2, t.val % 2] := (by decide +kernel : ∀ t : Fin grid0.N, _)
/-- Window 3's block at a point. -/
theorem idx3 : ∀ t : Fin cfg0.N, win0_3.index t = ![t.val / 2, 0] := (by decide +kernel : ∀ t : Fin grid0.N, _)
/-- The unrounded columns are written back at the odd points, after the second column tile. -/
theorem odd3 : ∀ t : Fin cfg0.N, (cfg0.win 3).flush t = true → t.val % 2 = 1 := (by decide +kernel : ∀ t : Fin grid0.N, _)

open Cert.InProjBRefIdeal.Read in
/-- The projected array after the run is the reference's product. -/
theorem final2 (c : Dev nD) : (dats m 0 c).arrAt 2 cfg0.N = G0 m c := by
  refine (dats m 0 c).arrAt_eq_of_covers 2 _ (by decide +kernel) fun t hf y => ?_
  blk_simp
  rw [after0_2]
  by_cases h0 : t.val % 2 = 1
  · rw [outsAt0_B m c t h0]
    frame_out
    unfold_payloads
    pointwise [G0, val_main_v9, val_main_v2, val_main_v1, val_main_v0]
    blk_point [iblk, V, idx0 t, idx1 t, idx2 t]
  · rw [outsAt0_A m c t h0]
    frame_out
    unfold_payloads
    pointwise [G0, val_main_v9, val_main_v2, val_main_v1, val_main_v0]
    blk_point [iblk, V, idx0 t, idx1 t, idx2 t]

open Cert.InProjBRefIdeal.Read in
/-- The unrounded columns after the run are the reference's. -/
theorem final3 (c : Dev nD) : (dats m 0 c).arrAt 3 cfg0.N = KV m c := by
  refine (dats m 0 c).arrAt_eq_of_covers 3 _ (by decide +kernel) fun t hf y => ?_
  blk_simp
  rw [after0_3]
  have h0 := odd3 t hf
  rw [outsAt0_B m c t h0]
  frame_out
  unfold_payloads
  pointwise [KV, val_main_v2, val_main_v1, val_main_v0]
  blk_point [iblk, V, idx0 t, idx1 t, idx3 t]
  · have e := win0_3.rect_emb_val t y 0
    rw [idx3 t] at e
    exact e.symm
  · have e := win0_3.rect_emb_val t y 1
    rw [idx3 t] at e
    have e' : (((View.whole main_v0_1).slice (win0_3.rect t)).emb y 1).val = 0 * 512 + (y 1).val := e
    omega

/-- The keys' buffer after the host lines: the last 128 rows of each sequence, the first 256 of the 512 columns, split into heads. -/
theorem tail1 (c : Dev nD) (A : S32768x512.Idx → EReal) (hA : (dats m 0 c).arrAt 3 cfg0.N = A) :
    Pipeline.afterTail₀ cfgs (dats m) 0 (V0 m) [hostOps1] c main_v5
      = broadcastInDim S1x8x128x4x64 ![1, 2, 3, 4] bcast_S8x128x4x64_S1x8x128x4x64_1_2_3_4
          (shapeCast S8x128x4x64 (extractStridedSlice S8x128x256 ![0, 0, 0] (extractStridedSlice S8x128x512 ![0, 3968, 0]
            (shapeCast S8x4096x512 A shapeCasts_S32768x512_S8x4096x512) slices_S8x4096x512_S8x128x512_0_3968_0)
            slices_S8x128x512_S8x128x256_0_0_0) shapeCasts_S8x128x256_S8x128x4x64) := by
  have hw : Pipeline.withArrays (cfgs 0).spec c (V0 m c) (fun w => (dats m 0 c).arrAt w (cfgs 0).N) (Proc.devRef .tc main_v0_1) = A :=
    (Pipeline.withArrays_arr spec0 (by decide) c (V0 m c) (fun w => (dats m 0 c).arrAt w cfg0.N) 3).trans hA
  unfold Pipeline.afterTail₀
  show StableHlo.after hostOps1 _ _ = _
  after_results
  rw [hw]
  rfl

/-- The values' buffer after the host lines: the last 128 rows of each sequence, the last 256 of the 512 columns, split into heads. -/
theorem tail2 (c : Dev nD) (A : S32768x512.Idx → EReal) (hA : (dats m 0 c).arrAt 3 cfg0.N = A) :
    Pipeline.afterTail₀ cfgs (dats m) 0 (V0 m) [hostOps1] c main_v8
      = broadcastInDim S1x8x128x4x64 ![1, 2, 3, 4] bcast_S8x128x4x64_S1x8x128x4x64_1_2_3_4
          (shapeCast S8x128x4x64 (extractStridedSlice S8x128x256 ![0, 0, 256] (extractStridedSlice S8x128x512 ![0, 3968, 0]
            (shapeCast S8x4096x512 A shapeCasts_S32768x512_S8x4096x512) slices_S8x4096x512_S8x128x512_0_3968_0)
            slices_S8x128x512_S8x128x256_0_0_256) shapeCasts_S8x128x256_S8x128x4x64) := by
  have hw : Pipeline.withArrays (cfgs 0).spec c (V0 m c) (fun w => (dats m 0 c).arrAt w (cfgs 0).N) (Proc.devRef .tc main_v0_1) = A :=
    (Pipeline.withArrays_arr spec0 (by decide) c (V0 m c) (fun w => (dats m 0 c).arrAt w cfg0.N) 3).trans hA
  unfold Pipeline.afterTail₀
  show StableHlo.after hostOps1 _ _ = _
  after_results
  rw [hw]
  rfl

/-- The run leaves the projected array, the keys and the values at what the grid and the host lines make of them, and the arguments as they were. -/
theorem run_tail (g : Dev nD → PrngReg) : θ_run defs (onTc (τ := τ) (main (F := Ideal))) ⟨m, fun _ => 0, g⟩ (fun r => ∀ c : Dev nD,
      r.2.mem ((c.tc : Thread nD τ).loc main_v0_0) = (dats m 0 c).arrAt 2 cfg0.N
      ∧ r.2.mem ((c.tc : Thread nD τ).loc main_v5) = Pipeline.afterTail₀ cfgs (dats m) 0 (V0 m) [hostOps1] c main_v5
      ∧ r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c).1 2, (h c).2 main_v5 (Pipeline.mem_restRefs_of main_v5 rfl (by decide)), (h c).2 main_v8 (Pipeline.mem_restRefs_of main_v8 rfl (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m g)

/-- A head's column is 64 per head and then its place in the head. -/
abbrev idx_heads (i : S8x128x4x64.Idx) : S8x128x256.Idx := fun a => match a with
  | ⟨0, _⟩ => ⟨(i 0).val, (i 0).isLt⟩
  | ⟨1, _⟩ => ⟨(i 1).val, (i 1).isLt⟩
  | ⟨2, _⟩ => ⟨(i 2).val * 64 + (i 3).val, by have h2 : (i 2).val < 4 := (i 2).isLt; have h3 : (i 3).val < 64 := (i 3).isLt; show (i 2).val * 64 + (i 3).val < 256; omega⟩

/-- The keys are the first 256 columns. -/
abbrev idx_first (i : S8x128x256.Idx) : S8x128x512.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 256 := (i 2).isLt; show (i 2).val < 512; omega⟩

/-- The values are the last 256 columns. -/
abbrev idx_last (i : S8x128x256.Idx) : S8x128x512.Idx := fun a => match a with
  | ⟨0, _⟩ => ⟨(i 0).val, (i 0).isLt⟩
  | ⟨1, _⟩ => ⟨(i 1).val, (i 1).isLt⟩
  | ⟨2, _⟩ => ⟨256 + (i 2).val, by have h2 : (i 2).val < 256 := (i 2).isLt; show 256 + (i 2).val < 512; omega⟩

/-- The cached rows are the last 128 of each sequence. -/
abbrev idx_window (i : S8x128x512.Idx) : S8x4096x512.Idx := fun a => match a with
  | ⟨0, _⟩ => ⟨(i 0).val, (i 0).isLt⟩
  | ⟨1, _⟩ => ⟨3968 + (i 1).val, by have h1 : (i 1).val < 128 := (i 1).isLt; show 3968 + (i 1).val < 4096; omega⟩
  | ⟨2, _⟩ => ⟨(i 2).val, (i 2).isLt⟩

/-- A row of a sequence is 4096 per sequence and then its place in the sequence. -/
abbrev idx_rows (i : S8x4096x512.Idx) : S32768x512.Idx := fun a => match a with
  | ⟨0, _⟩ => ⟨(i 0).val * 4096 + (i 1).val, by have h0 : (i 0).val < 8 := (i 0).isLt; have h1 : (i 1).val < 4096 := (i 1).isLt; show (i 0).val * 4096 + (i 1).val < 32768; omega⟩
  | ⟨1, _⟩ => ⟨(i 2).val, (i 2).isLt⟩

/-- Splitting the 256 columns into heads, read at an index. -/
theorem heads_apply (y : S8x128x256.Idx → EReal) (i : S8x128x4x64.Idx) :
    shapeCast S8x128x4x64 y shapeCasts_S8x128x256_S8x128x4x64 i = y (idx_heads i) :=
  shapeCast_apply y shapeCasts_S8x128x256_S8x128x4x64 i (idx_heads i) (by
    rewrite [Shape.rowMajor_val_three, Shape.rowMajor_val_four]
    show ((i 0).val * 128 + (i 1).val) * 256 + ((i 2).val * 64 + (i 3).val) = (((i 0).val * 128 + (i 1).val) * 4 + (i 2).val) * 64 + (i 3).val
    omega)

/-- The first 256 columns, read at an index. -/
theorem first_apply (y : S8x128x512.Idx → EReal) (i : S8x128x256.Idx) :
    extractStridedSlice S8x128x256 ![0, 0, 0] y slices_S8x128x512_S8x128x256_0_0_0 i = y (idx_first i) :=
  extractStridedSlice_apply ![0, 0, 0] y slices_S8x128x512_S8x128x256_0_0_0 i (idx_first i) (fun a => match a with
    | ⟨0, _⟩ => by show (i 0).val = 0 + (i 0).val; omega
    | ⟨1, _⟩ => by show (i 1).val = 0 + (i 1).val; omega
    | ⟨2, _⟩ => by show (i 2).val = 0 + (i 2).val; omega)

/-- The last 256 columns, read at an index. -/
theorem last_apply (y : S8x128x512.Idx → EReal) (i : S8x128x256.Idx) :
    extractStridedSlice S8x128x256 ![0, 0, 256] y slices_S8x128x512_S8x128x256_0_0_256 i = y (idx_last i) :=
  extractStridedSlice_apply ![0, 0, 256] y slices_S8x128x512_S8x128x256_0_0_256 i (idx_last i) (fun a => match a with
    | ⟨0, _⟩ => by show (i 0).val = 0 + (i 0).val; omega
    | ⟨1, _⟩ => by show (i 1).val = 0 + (i 1).val; omega
    | ⟨2, _⟩ => by show 256 + (i 2).val = 256 + (i 2).val; omega)

/-- The last 128 rows of each sequence, read at an index. -/
theorem window_apply (y : S8x4096x512.Idx → EReal) (i : S8x128x512.Idx) :
    extractStridedSlice S8x128x512 ![0, 3968, 0] y slices_S8x4096x512_S8x128x512_0_3968_0 i = y (idx_window i) :=
  extractStridedSlice_apply ![0, 3968, 0] y slices_S8x4096x512_S8x128x512_0_3968_0 i (idx_window i) (fun a => match a with
    | ⟨0, _⟩ => by show (i 0).val = 0 + (i 0).val; omega
    | ⟨1, _⟩ => by show 3968 + (i 1).val = 3968 + (i 1).val; omega
    | ⟨2, _⟩ => by show (i 2).val = 0 + (i 2).val; omega)

/-- The rows grouped by sequence, read at an index. -/
theorem rows_apply (y : S32768x512.Idx → EReal) (i : S8x4096x512.Idx) :
    shapeCast S8x4096x512 y shapeCasts_S32768x512_S8x4096x512 i = y (idx_rows i) :=
  shapeCast_apply y shapeCasts_S32768x512_S8x4096x512 i (idx_rows i) (by
    rewrite [Shape.rowMajor_val_two, Shape.rowMajor_val_three]
    show ((i 0).val * 4096 + (i 1).val) * 512 + (i 2).val = ((i 0).val * 4096 + (i 1).val) * 512 + (i 2).val
    rfl)

open Cert.InProjBRefIdeal.Read in
/-- The keys that the host lines cut out of the unrounded columns are the reference's. -/
theorem keys_eq (c : Dev nD) :
    broadcastInDim S1x8x128x4x64 ![1, 2, 3, 4] bcast_S8x128x4x64_S1x8x128x4x64_1_2_3_4
      (shapeCast S8x128x4x64 (extractStridedSlice S8x128x256 ![0, 0, 0] (extractStridedSlice S8x128x512 ![0, 3968, 0]
        (shapeCast S8x4096x512 (KV m c) shapeCasts_S32768x512_S8x4096x512) slices_S8x4096x512_S8x128x512_0_3968_0)
        slices_S8x128x512_S8x128x256_0_0_0) shapeCasts_S8x128x256_S8x128x4x64) = G1 m c := by
  funext i
  have b1 : (i 1).val < 8 := (i 1).isLt
  have b2 : (i 2).val < 128 := (i 2).isLt
  have b3 : (i 3).val < 4 := (i 3).isLt
  have b4 : (i 4).val < 64 := (i 4).isLt
  unfold G1
  rw [val_main_v10_apply, val_main_v7_apply, val_main_v5_apply, val_main_v3_apply]
  refine (broadcastInDim_apply _ bcast_S8x128x4x64_S1x8x128x4x64_1_2_3_4 _ i (idx_main_v10 i) fun a => ?_).trans ?_
  · match a with
    | ⟨0, _⟩ => show (i 1).val = if (8 : Nat) = 1 then 0 else (i 1).val; rw [if_neg (by decide)]
    | ⟨1, _⟩ => show (i 2).val = if (128 : Nat) = 1 then 0 else (i 2).val; rw [if_neg (by decide)]
    | ⟨2, _⟩ => show (i 3).val = if (4 : Nat) = 1 then 0 else (i 3).val; rw [if_neg (by decide)]
    | ⟨3, _⟩ => show (i 4).val = if (64 : Nat) = 1 then 0 else (i 4).val; rw [if_neg (by decide)]
  refine (heads_apply _ _).trans ?_
  refine (first_apply _ _).trans ?_
  refine (window_apply _ _).trans ?_
  refine (rows_apply _ _).trans ?_
  refine congrArg (val_main_v2 (F := Ideal) (m ((c : Thread nD τ).loc main_arg0)) (m ((c : Thread nD τ).loc main_arg1))) (funext fun a => Fin.ext ?_)
  match a with
  | ⟨0, _⟩ =>
    show (i 1).val * 4096 + (3968 + (i 2).val) = (((((i 1).val * 4096 + (3968 + (i 2).val)) * 4 + (i 3).val) * 64 + (i 4).val) / 256)
    omega
  | ⟨1, _⟩ =>
    show 5120 + (((i 3).val * 64 + (i 4).val)) = 5120 + (((((i 1).val * 4096 + (3968 + (i 2).val)) * 4 + (i 3).val) * 64 + (i 4).val) % 256)
    omega

open Cert.InProjBRefIdeal.Read in
/-- The values that the host lines cut out of the unrounded columns are the reference's. -/
theorem values_eq (c : Dev nD) :
    broadcastInDim S1x8x128x4x64 ![1, 2, 3, 4] bcast_S8x128x4x64_S1x8x128x4x64_1_2_3_4
      (shapeCast S8x128x4x64 (extractStridedSlice S8x128x256 ![0, 0, 256] (extractStridedSlice S8x128x512 ![0, 3968, 0]
        (shapeCast S8x4096x512 (KV m c) shapeCasts_S32768x512_S8x4096x512) slices_S8x4096x512_S8x128x512_0_3968_0)
        slices_S8x128x512_S8x128x256_0_0_256) shapeCasts_S8x128x256_S8x128x4x64) = G2 m c := by
  funext i
  have b1 : (i 1).val < 8 := (i 1).isLt
  have b2 : (i 2).val < 128 := (i 2).isLt
  have b3 : (i 3).val < 4 := (i 3).isLt
  have b4 : (i 4).val < 64 := (i 4).isLt
  unfold G2
  rw [val_main_v11_apply, val_main_v8_apply, val_main_v6_apply, val_main_v4_apply]
  refine (broadcastInDim_apply _ bcast_S8x128x4x64_S1x8x128x4x64_1_2_3_4 _ i (idx_main_v11 i) fun a => ?_).trans ?_
  · match a with
    | ⟨0, _⟩ => show (i 1).val = if (8 : Nat) = 1 then 0 else (i 1).val; rw [if_neg (by decide)]
    | ⟨1, _⟩ => show (i 2).val = if (128 : Nat) = 1 then 0 else (i 2).val; rw [if_neg (by decide)]
    | ⟨2, _⟩ => show (i 3).val = if (4 : Nat) = 1 then 0 else (i 3).val; rw [if_neg (by decide)]
    | ⟨3, _⟩ => show (i 4).val = if (64 : Nat) = 1 then 0 else (i 4).val; rw [if_neg (by decide)]
  refine (heads_apply _ _).trans ?_
  refine (last_apply _ _).trans ?_
  refine (window_apply _ _).trans ?_
  refine (rows_apply _ _).trans ?_
  refine congrArg (val_main_v2 (F := Ideal) (m ((c : Thread nD τ).loc main_arg0)) (m ((c : Thread nD τ).loc main_arg1))) (funext fun a => Fin.ext ?_)
  match a with
  | ⟨0, _⟩ =>
    show (i 1).val * 4096 + (3968 + (i 2).val) = (((((i 1).val * 4096 + (3968 + (i 2).val)) * 4 + (i 3).val) * 64 + (i 4).val) / 256)
    omega
  | ⟨1, _⟩ =>
    show 5120 + (256 + ((i 3).val * 64 + (i 4).val)) = 5376 + (((((i 1).val * 4096 + (3968 + (i 2).val)) * 4 + (i 3).val) * 64 + (i 4).val) % 256)
    omega

end Cert.InProjBIdeal.Result
-- ==== Proof.Merge.lean ====
/- The merge call: what each block of its result holds, and the array they make. -/
module

public import proofs.«01_k».proof.Proof.Gen.MergeIdeal.Value
public import proofs.«01_k».proof.Proof.Gen.MergeRefIdeal.Read
public import proofs.«01_k».proof.Proof.Gen.MergeRefIdeal.Run
public import Idealize.ShloMosaic.Lib.Pipeline.ValueKit

@[expose] public section

set_option maxRecDepth 16384

noncomputable section

namespace Cert.MergeIdeal.Result

open Cert.MergeIdeal Cert.MergeIdeal.Gen Cert.MergeIdeal.Value Idealize.ShloMosaic Idealize.ShloMosaic.TcCoe Idealize.SL.Sem

variable (m : (ℓ : Loc nD τ sig) → Buf (Elt Ideal) ℓ)

open Cert.MergeRefIdeal.Read in
/-- The reference's result as a function of this call's nine arguments. -/
def G (c : Dev nD) : S512x2048.Idx → EReal :=
  val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Window 0's block at a point. -/
theorem idx0 : ∀ t : Fin cfg0.N, win0_0.index t = ![t.val, 0] := (by decide +kernel : ∀ t : Fin grid0.N, _)
/-- Window 1's block at a point. -/
theorem idx1 : ∀ t : Fin cfg0.N, win0_1.index t = ![t.val, 0] := (by decide +kernel : ∀ t : Fin grid0.N, _)
/-- Window 2's block at a point. -/
theorem idx2 : ∀ t : Fin cfg0.N, win0_2.index t = ![t.val, 0] := (by decide +kernel : ∀ t : Fin grid0.N, _)
/-- Window 3's block at a point. -/
theorem idx3 : ∀ t : Fin cfg0.N, win0_3.index t = ![t.val, 1] := (by decide +kernel : ∀ t : Fin grid0.N, _)
/-- Window 4's block at a point. -/
theorem idx4 : ∀ t : Fin cfg0.N, win0_4.index t = ![t.val, 2] := (by decide +kernel : ∀ t : Fin grid0.N, _)
/-- Window 5's block at a point. -/
theorem idx5 : ∀ t : Fin cfg0.N, win0_5.index t = ![t.val, 0] := (by decide +kernel : ∀ t : Fin grid0.N, _)
/-- Window 6's block at a point. -/
theorem idx6 : ∀ t : Fin cfg0.N, win0_6.index t = ![0, 0] := (by decide +kernel : ∀ t : Fin grid0.N, _)
/-- Window 7's block at a point. -/
theorem idx7 : ∀ t : Fin cfg0.N, win0_7.index t = ![0, 0] := (by decide +kernel : ∀ t : Fin grid0.N, _)
/-- Window 8's block at a point. -/
theorem idx8 : ∀ t : Fin cfg0.N, win0_8.index t = ![0, 0] := (by decide +kernel : ∀ t : Fin grid0.N, _)
/-- Window 9's block at a point. -/
theorem idx9 : ∀ t : Fin cfg0.N, win0_9.index t = ![0, 0] := (by decide +kernel : ∀ t : Fin grid0.N, _)
/-- Window 10's block at a point. -/
theorem idx10 : ∀ t : Fin cfg0.N, win0_10.index t = ![t.val, 0] := (by decide +kernel : ∀ t : Fin grid0.N, _)

/-- The block of the second projection's gate at a point, read off the array: the point's rows, the first 2048 columns. -/
theorem X5 (c : Dev nD) (t : Fin cfg0.N) (y : S256x2048.Idx) :
    X0_5 m c t y = m ((c : Thread nD τ).loc main_arg4)
      (ValueIdx.ix2 ⟨t.val * 256 + y 0, by have h : t.val < 2 := t.isLt; have h' : (y 0).val < 256 := (y 0).isLt; omega⟩
        ⟨y 1, by have h : (y 1).val < 2048 := (y 1).isLt; omega⟩) := by
  unfold X0_5 Pipeline.Window.fill
  rw [dif_pos (moved0_5 t y)]
  blk_ext [iblk, V, idx5 t]

open Cert.MergeRefIdeal.Read in
/-- The output array after the run is the reference's result. -/
theorem final (c : Dev nD) : (dats m 0 c).arrAt 10 cfg0.N = G m c := by
  refine (dats m 0 c).arrAt_eq_of_covers 10 _ (by decide +kernel) fun t hf y => ?_
  blk_simp
  rw [after0_10, outsAt0]
  frame_out
  unfold_payloads
  pointwise [G, val_main_v44, val_main_v43, val_main_v42, val_main_v41, val_main_v40, val_main_v39, val_main_v38, val_main_v37, val_main_v36, val_main_cst_5, val_main_v35, val_main_v34, val_main_cst_4, val_main_v33, val_main_v32, val_main_cst_3, val_main_v31, val_main_v30, val_main_v29, val_main_v28, val_main_v27, val_main_v26, val_main_v25, val_main_v24, val_main_cst_2, val_main_v23, val_main_v22, val_main_cst_1, val_main_v21, val_main_v20, val_main_v19, val_main_v18, val_main_v17, val_main_v16, val_main_cst_0, val_main_v15, val_main_v14, val_main_cst, val_main_v13, val_main_v12, val_main_v11, val_main_v10, val_main_call0_v5, val_main_call0_v4, val_main_call0_cst_0, val_main_call0_v3, val_main_call0_v2, val_main_call0_cst, val_main_call0_v1, val_main_call0_v0, val_main_v9, val_main_v8, val_main_v7, val_main_v6, val_main_v5, val_main_v4, val_main_v3, val_main_v2, val_main_v1, val_main_v0]
  simp only [zero_sub, X5]
  blk_point [iblk, V, idx0 t, idx1 t, idx2 t, idx3 t, idx4 t, idx6 t, idx7 t, idx8 t, idx9 t, idx10 t]

end Cert.MergeIdeal.Result
-- ==== Proof.Ple.lean ====
/- The per-layer embedding call: what each block of its result holds, and the array they make. -/
module

public import proofs.«01_k».proof.Proof.Gen.PleIdeal.Value
public import proofs.«01_k».proof.Proof.Gen.PleRefIdeal.Read
public import Idealize.ShloMosaic.Lib.Pipeline.ValueKit

@[expose] public section

set_option maxRecDepth 16384

noncomputable section

namespace Cert.PleIdeal.Result

open Cert.PleIdeal Cert.PleIdeal.Gen Cert.PleIdeal.Value Idealize.ShloMosaic Idealize.ShloMosaic.TcCoe Idealize.SL.Sem

variable (m : (ℓ : Loc nD τ sig) → Buf (Elt Ideal) ℓ)

open Cert.PleRefIdeal.Read in
/-- The reference's result as a function of this call's five arguments. -/
def G (c : Dev nD) : S32768x2048.Idx → EReal :=
  val_main_v25 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- Window 0's block at a point. -/
theorem idx0 : ∀ t : Fin cfg0.N, win0_0.index t = ![t.val, 0] := (by decide +kernel : ∀ t : Fin grid0.N, _)
/-- Window 1's block at a point. -/
theorem idx1 : ∀ t : Fin cfg0.N, win0_1.index t = ![t.val, 0] := (by decide +kernel : ∀ t : Fin grid0.N, _)
/-- Window 2's block at a point. -/
theorem idx2 : ∀ t : Fin cfg0.N, win0_2.index t = ![0, 0] := (by decide +kernel : ∀ t : Fin grid0.N, _)
/-- Window 3's block at a point. -/
theorem idx3 : ∀ t : Fin cfg0.N, win0_3.index t = ![0, 0] := (by decide +kernel : ∀ t : Fin grid0.N, _)
/-- Window 4's block at a point. -/
theorem idx4 : ∀ t : Fin cfg0.N, win0_4.index t = ![0, 0] := (by decide +kernel : ∀ t : Fin grid0.N, _)
/-- Window 5's block at a point. -/
theorem idx5 : ∀ t : Fin cfg0.N, win0_5.index t = ![t.val, 0] := (by decide +kernel : ∀ t : Fin grid0.N, _)

open Cert.PleRefIdeal.Read in
/-- The output array after the run is the reference's result. -/
theorem final (c : Dev nD) : (dats m 0 c).arrAt 5 cfg0.N = G m c := by
  refine (dats m 0 c).arrAt_eq_of_covers 5 _ (by decide +kernel) fun t hf y => ?_
  blk_simp
  rw [after0_5]
  unfold out0_5
  canon_tiles x h
  all_goals unfold_payloads
  all_goals pointwise [G, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  all_goals simp only [zero_sub]
  all_goals blk_point [iblk, V, idx0 t, idx1 t, idx2 t, idx3 t, idx4 t, idx5 t]

end Cert.PleIdeal.Result
-- ==== Proof.InProjAIdealFrame.lean ====
/- The first half of the input projection: what its body leaves at each point, and the run of the whole call.
   A row block's three points share one buffer of normed rows: the first fills it, the other two read it, and the
   third writes it back. -/
module

public import proofs.«01_k».proof.Proof.Gen.InProjAIdeal.Launch
public import proofs.«01_k».proof.Proof.Gen.InProjAIdeal.Skeleton
public import Idealize.ShloMosaic.Lib.Claim
public import Idealize.ShloMosaic.Lib.Ring
public import Idealize.ShloMosaic.Lib.Pipeline.TableIdle
public import Idealize.ShloMosaic.Lib.Pipeline.ValueKit

@[expose] public section

set_option maxRecDepth 16384

noncomputable section

namespace Cert.InProjAIdeal.Hand

open Cert.InProjAIdeal Cert.InProjAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- There are 96 points. -/
theorem lt96 (t : Fin cfg0.N) : t.val < 96 := t.isLt

/-- The body norms the rows at the first of a row block's three points. -/
theorem norms_iff : ∀ t : Fin cfg0.N, k0_cond1 (grid0.coords t) = 1#1 ↔ t.val % 3 = 0 :=
  (by decide +kernel : ∀ t : Fin grid0.N, k0_cond1 (grid0.coords t) = 1#1 ↔ t.val % 3 = 0)

/-- It only multiplies at the other two. -/
theorem reuses_iff : ∀ t : Fin cfg0.N, k0_cond2 (grid0.coords t) = 1#1 ↔ t.val % 3 ≠ 0 :=
  (by decide +kernel : ∀ t : Fin grid0.N, k0_cond2 (grid0.coords t) = 1#1 ↔ t.val % 3 ≠ 0)

/-- The product's window is stored into at every point. -/
theorem live3 : ∀ t : Fin cfg0.N, cfg0.idle 3 (grid0.coords t) = false :=
  (by decide +kernel : ∀ t : Fin grid0.N, idle0 3 (grid0.coords t) = false)

/-- The normed rows' window is left alone at the points that only multiply. -/
theorem idle4 : ∀ t : Fin cfg0.N, cfg0.idle 4 (grid0.coords t) = decide (t.val % 3 ≠ 0) :=
  (by decide +kernel : ∀ t : Fin grid0.N, idle0 4 (grid0.coords t) = decide (t.val % 3 ≠ 0))

/-- It is written back at the last of the three. -/
theorem flush4 : ∀ t : Fin cfg0.N, (cfg0.win 4).flush t = decide (t.val % 3 = 2) :=
  (by decide +kernel : ∀ t : Fin grid0.N, win0_4.flush t = decide (t.val % 3 = 2))

/-- Its buffer holds nothing of this row block exactly when the row block begins. -/
theorem fresh4 (t : Fin cfg0.N) : cfg0.fresh 4 t.val = decide (t.val % 3 = 0) :=
  cfg0.fresh_tab 4 (fun n => decide (n % 3 = 0)) (by decide) (fun s => by
    rw [flush4, idle4]
    by_cases h0 : s.val % 3 = 0
    · rw [decide_eq_true h0]; simp only [h0]; rw [decide_eq_false (by omega)]; decide
    · by_cases h2 : s.val % 3 = 2
      · rw [decide_eq_true h2, decide_eq_true (by omega : (s.val + 1) % 3 = 0)]; rfl
      · rw [decide_eq_false h0, decide_eq_false h2, decide_eq_false (by omega : ¬(s.val + 1) % 3 = 0)]; simp) t.val (Nat.le_of_lt t.isLt)

/-- The first point of a point's row block. -/
def opening (t : Fin cfg0.N) : Fin cfg0.N := ⟨3 * (t.val / 3), Nat.lt_of_le_of_lt (Nat.mul_div_le t.val 3) t.isLt⟩

/-- It is one that norms. -/
theorem opening_mod (t : Fin cfg0.N) : (opening t).val % 3 = 0 := Nat.mul_mod_right 3 _

/-! ## The body on any staging buffers -/

set_option maxHeartbeats 2000000 in
/-- What the body stores into the product's buffer and into the normed rows' at a point that norms, with the run that
    stores it: the other buffers end as they were. -/
def storing (c : Dev nD) (i : grid0.Coords) (xb : Memref sig .tc .vmem S1024x2048 .f32) (hx : xb.IsWhole)
    (gb : Memref sig .tc .vmem S1x2048 .f32) (hg : gb.IsWhole) (wb : Memref sig .tc .vmem S2048x2048 .bf16) (hw : wb.IsWhole)
    (ob : Memref sig .tc .vmem S1024x2048 .bf16) (ho : ob.IsWhole) (ub : Memref sig .tc .vmem S1024x2048 .bf16) (hu : ub.IsWhole)
    (yes : k0_cond1 i = 1#1) (no : ¬k0_cond2 i = 1#1)
    (x : Vec F S1024x2048 .f32) (g : Vec F S1x2048 .f32) (w : Vec F S2048x2048 .bf16) :
    { p : List (View.Piece (Elt F) S1024x2048 .bf16) × List (View.Piece (Elt F) S1024x2048 .bf16) //
      ∀ (E : Set ℕ) (K : PUnit → sProp 𝕄),
        iprop(owns (c : Thread nD τ) xb fullShare x ∗ owns (c : Thread nD τ) gb fullShare g ∗ owns (c : Thread nD τ) wb fullShare w
            ∗ (∃ d, owns (c : Thread nD τ) ob fullShare d) ∗ (∃ d, owns (c : Thread nD τ) ub fullShare d)
            ∗ (iprop(owns (c : Thread nD τ) xb fullShare x ∗ owns (c : Thread nD τ) gb fullShare g ∗ owns (c : Thread nD τ) wb fullShare w
                ∗ (∃ f, ob.view.loc (c : Thread nD τ) ↦[ob.view.set]{fullShare} ob.view.writes (Elt F) f p.1)
                ∗ (∃ f, ub.view.loc (c : Thread nD τ) ↦[ub.view.set]{fullShare} ub.view.writes (Elt F) f p.2)) -∗ K ⟨⟩))
          ⊢ wp frame (wpE (defs₀ (F := F)) Variants.none c none) E (cc0_in_proj_a i xb hx gb hg wb hw ob ho ub hu) K } := by
  refine ⟨(?_, ?_), fun E K => ?run⟩
  case run =>
    simp only [cc0_in_proj_a_eq_skeleton]; unfold cc0_in_proj_a_skel
    simp only [k0_part1_eq_skeleton, k0_part2_eq_skeleton]
    unfold owns
    iintro ⟨⟨%fx, %ex, HX⟩, ⟨%fg, %eg, HG⟩, ⟨%fw, %ew, HW⟩, ⟨%d0, %f0, -, HO⟩, ⟨%d1, %f1, -, HU⟩, Hk⟩
    obtain rfl := hx.eq_unread ex; obtain rfl := hg.eq_unread eg; obtain rfl := hw.eq_unread ew
    sl_exec (disch := first | sl_exact yes | sl_exact no)
    sl_step
    iapply Hk
    isplitl [HX]
    · iexists _; isplitr; · ipureintro; exact hx.read_unread _
      iexact HX
    isplitl [HG]
    · iexists _; isplitr; · ipureintro; exact hg.read_unread _
      iexact HG
    isplitl [HW]
    · iexists _; isplitr; · ipureintro; exact hw.read_unread _
      iexact HW
    isplitl [HO]
    · iexists _
      iexact HO
    iexists _
    iexact HU

/-- The stores fill both buffers. -/
theorem filled (c : Dev nD) (i : grid0.Coords) (xb : Memref sig .tc .vmem S1024x2048 .f32) (hx : xb.IsWhole)
    (gb : Memref sig .tc .vmem S1x2048 .f32) (hg : gb.IsWhole) (wb : Memref sig .tc .vmem S2048x2048 .bf16) (hw : wb.IsWhole)
    (ob : Memref sig .tc .vmem S1024x2048 .bf16) (ho : ob.IsWhole) (ub : Memref sig .tc .vmem S1024x2048 .bf16) (hu : ub.IsWhole)
    (yes : k0_cond1 i = 1#1) (no : ¬k0_cond2 i = 1#1)
    (x : Vec F S1024x2048 .f32) (g : Vec F S1x2048 .f32) (w : Vec F S2048x2048 .bf16) :
    (∀ y, ∃ p ∈ (storing c i xb hx gb hg wb hw ob ho ub hu yes no x g w).1.1, y ∈ p.1.set) ∧ (∀ y, ∃ p ∈ (storing c i xb hx gb hg wb hw ob ho ub hu yes no x g w).1.2, y ∈ p.1.set) :=
  ⟨View.cover_of_tiledL (storing c i xb hx gb hg wb hw ob ho ub hu yes no x g w).1.1 S256x2048.size (by sl_kernel_rfl),
    View.cover_of_tiledL (storing c i xb hx gb hg wb hw ob ho ub hu yes no x g w).1.2 S256x2048.size (by sl_kernel_rfl)⟩

/-- What the body leaves in the product's buffer and in the normed rows' at a point that norms, which its four stores fill,
    with the run that leaves it. -/
def norming (c : Dev nD) (i : grid0.Coords) (xb : Memref sig .tc .vmem S1024x2048 .f32) (hx : xb.IsWhole)
    (gb : Memref sig .tc .vmem S1x2048 .f32) (hg : gb.IsWhole) (wb : Memref sig .tc .vmem S2048x2048 .bf16) (hw : wb.IsWhole)
    (ob : Memref sig .tc .vmem S1024x2048 .bf16) (ho : ob.IsWhole) (ub : Memref sig .tc .vmem S1024x2048 .bf16) (hu : ub.IsWhole)
    (yes : k0_cond1 i = 1#1) (no : ¬k0_cond2 i = 1#1)
    (x : Vec F S1024x2048 .f32) (g : Vec F S1x2048 .f32) (w : Vec F S2048x2048 .bf16) :
    { p : Vec F S1024x2048 .bf16 × Vec F S1024x2048 .bf16 //
      ∀ (E : Set ℕ) (K : PUnit → sProp 𝕄),
        iprop(owns (c : Thread nD τ) xb fullShare x ∗ owns (c : Thread nD τ) gb fullShare g ∗ owns (c : Thread nD τ) wb fullShare w
            ∗ (∃ d, owns (c : Thread nD τ) ob fullShare d) ∗ (∃ d, owns (c : Thread nD τ) ub fullShare d)
            ∗ (iprop(owns (c : Thread nD τ) xb fullShare x ∗ owns (c : Thread nD τ) gb fullShare g ∗ owns (c : Thread nD τ) wb fullShare w
                ∗ owns (c : Thread nD τ) ob fullShare p.1 ∗ owns (c : Thread nD τ) ub fullShare p.2) -∗ K ⟨⟩))
          ⊢ wp frame (wpE (defs₀ (F := F)) Variants.none c none) E (cc0_in_proj_a i xb hx gb hg wb hw ob ho ub hu) K } :=
  ⟨(View.canon (storing c i xb hx gb hg wb hw ob ho ub hu yes no x g w).1.1, View.canon (storing c i xb hx gb hg wb hw ob ho ub hu yes no x g w).1.2), fun E K => by
    have hr := (storing c i xb hx gb hg wb hw ob ho ub hu yes no x g w).2 E K
    have hf := filled c i xb hx gb hg wb hw ob ho ub hu yes no x g w
    dsimp only
    generalize (storing c i xb hx gb hg wb hw ob ho ub hu yes no x g w).1 = q at hr hf ⊢
    iintro ⟨HX, HG, HW, HO, HU, Hk⟩
    iapply hr
    isplitl [HX]; · iexact HX
    isplitl [HG]; · iexact HG
    isplitl [HW]; · iexact HW
    isplitl [HO]; · iexact HO
    isplitl [HU]; · iexact HU
    iintro ⟨HX, HG, HW, ⟨%fo, HO⟩, ⟨%fu, HU⟩⟩
    iapply Hk
    isplitl [HX]; · iexact HX
    isplitl [HG]; · iexact HG
    isplitl [HW]; · iexact HW
    unfold owns
    isplitl [HO]
    · iexists _; isplitr
      swap; · iexact HO
      ipureintro; exact View.read_writes_eq_canon _ _ _ hf.1
    iexists _; isplitr
    swap; · iexact HU
    ipureintro; exact View.read_writes_eq_canon _ _ _ hf.2⟩

set_option maxHeartbeats 2000000 in
/-- At a point that only multiplies, the body leaves the product of the normed rows with the weights' tile, and
    everything else as it was. -/
theorem multiplying (c : Dev nD) (i : grid0.Coords) (xb : Memref sig .tc .vmem S1024x2048 .f32) (hx : xb.IsWhole)
    (gb : Memref sig .tc .vmem S1x2048 .f32) (hg : gb.IsWhole) (wb : Memref sig .tc .vmem S2048x2048 .bf16) (hw : wb.IsWhole)
    (ob : Memref sig .tc .vmem S1024x2048 .bf16) (ho : ob.IsWhole) (ub : Memref sig .tc .vmem S1024x2048 .bf16) (hu : ub.IsWhole)
    (no : ¬k0_cond1 i = 1#1) (yes : k0_cond2 i = 1#1)
    (w : Vec F S2048x2048 .bf16) (u : Vec F S1024x2048 .bf16) (E : Set ℕ) (K : PUnit → sProp 𝕄) :
    iprop(owns (c : Thread nD τ) wb fullShare w ∗ (∃ d, owns (c : Thread nD τ) ob fullShare d) ∗ owns (c : Thread nD τ) ub fullShare u
        ∗ (iprop(owns (c : Thread nD τ) wb fullShare w ∗ owns (c : Thread nD τ) ob fullShare (k0_pay3 u w) ∗ owns (c : Thread nD τ) ub fullShare u) -∗ K ⟨⟩))
      ⊢ wp frame (wpE (defs₀ (F := F)) Variants.none c none) E (cc0_in_proj_a i xb hx gb hg wb hw ob ho ub hu) K := by
  simp only [cc0_in_proj_a_eq_skeleton]; unfold cc0_in_proj_a_skel
  unfold owns
  iintro ⟨⟨%fw, %ew, HW⟩, ⟨%d0, %f0, -, HO⟩, ⟨%fu, %eu, HU⟩, Hk⟩
  obtain rfl := hw.eq_unread ew; obtain rfl := hu.eq_unread eu
  sl_exec (disch := first | sl_exact yes | sl_exact no)
  sl_step
  iapply Hk
  isplitl [HW]
  · iexists _; isplitr; · ipureintro; exact hw.read_unread _
    iexact HW
  isplitl [HO]
  · iexists _; isplitr
    swap; · iexact HO
    ipureintro
    rw [View.read_writes_eq_canon _ _ _ (View.cover_of_tiledL _ S1024x2048.size (by sl_kernel_rfl))]
    frame_out
  iexists _; isplitr; · ipureintro; exact hu.read_unread _
  iexact HU

/-! ## The call -/

/-- Memory when the call is entered: as the program was started. -/
abbrev V (c : Dev nD) (b : Ref sig .tc) : Buf (Elt F) ((c : Thread nD τ).loc b) := m ((c : Thread nD τ).loc b)

/-- The program is this one call. -/
theorem entered (𝒱 : Variants) : Pipeline.HMain (Ix := Unit) (Name := ℕ) (U := UR sig nD τ) (Lvl := ℕ) cfgs 0 defs₀ 𝒱 m (main (F := F)) (V m) :=
  Pipeline.hmain_region cfgs 0 defs₀ 𝒱 m main fun c => (main_chain c).trans rfl

/-- A window's block at a point, as the call finds its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The norming body at a point's buffers and blocks. -/
def opened (c : Dev nD) (t : Fin cfg0.N) (h : t.val % 3 = 0) :=
  norming c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    ((norms_iff t).mpr h) (fun q => (reuses_iff t).mp q h) (iblk m c 0 t) (iblk m c 1 t) (iblk m c 2 t)

/-- The normed rows that a row block's first point leaves. -/
def rows (c : Dev nD) (t : Fin cfg0.N) (h : t.val % 3 = 0) : Vec F S1024x2048 .bf16 := (opened m c t h).1.2

/-- They depend on the point alone. -/
theorem rows_congr (c : Dev nD) (s t : Fin cfg0.N) (hs : s.val % 3 = 0) (ht : t.val % 3 = 0) (e : s = t) : rows m c s hs = rows m c t ht := by
  subst e; rfl

/-- The normed rows of a point's row block: what its first point left. -/
def normed (c : Dev nD) (t : Fin cfg0.N) : Vec F S1024x2048 .bf16 := rows m c (opening t) (opening_mod t)

/-- The product's tile at a point. -/
def product (c : Dev nD) (t : Fin cfg0.N) : Vec F S1024x2048 .bf16 :=
  if h : t.val % 3 = 0 then (opened m c t h).1.1 else k0_pay3 (normed m c t) (iblk m c 2 t)

/-- At a row block's first point the normed rows are what that point leaves. -/
theorem normed_opening (c : Dev nD) (t : Fin cfg0.N) (h : t.val % 3 = 0) : normed m c t = (opened m c t h).1.2 :=
  rows_congr m c _ t _ h (Fin.ext (by show 3 * (t.val / 3) = t.val; omega))

/-- A row block's later points have the normed rows of the point before. -/
theorem normed_prev (c : Dev nD) (t s : Fin cfg0.N) (h : s.val / 3 = t.val / 3) : normed m c t = normed m c s :=
  rows_congr m c _ _ _ _ (Fin.ext (by show 3 * (t.val / 3) = 3 * (s.val / 3); rw [h]))

/-- What the call's windows hold after each point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product m c t
    | ⟨4, _⟩ => normed m c t
  Φ _ := Pipeline.ΦA spec0 c
  q _ := fullShare
  owed _ := 0

/-- Its arrays are those the call finds. -/
theorem data_A (c : Dev nD) (w : Fin cfg0.W) : (data m 0 c).A w = V m c (Pipeline.arrRef spec0 w) := rfl

/-- The activations' buffer ends a point with its block. -/
theorem after0 (c : Dev nD) (t : Fin cfg0.N) : (data m 0 c).after 0 t = iblk m c 0 t := by dsimp only [data]
/-- So does the gains'. -/
theorem after1 (c : Dev nD) (t : Fin cfg0.N) : (data m 0 c).after 1 t = iblk m c 1 t := by dsimp only [data]
/-- So does the weights'. -/
theorem after2 (c : Dev nD) (t : Fin cfg0.N) : (data m 0 c).after 2 t = iblk m c 2 t := by dsimp only [data]
/-- The product's buffer ends it with the product's tile. -/
theorem after3 (c : Dev nD) (t : Fin cfg0.N) : (data m 0 c).after 3 t = product m c t := by dsimp only [data]
/-- The last buffer ends it with the row block's normed rows. -/
theorem after4 (c : Dev nD) (t : Fin cfg0.N) : (data m 0 c).after 4 t = normed m c t := by dsimp only [data]

/-- The body finds its block of activations. -/
theorem found0 (c : Dev nD) (t : Fin cfg0.N) (d) : (data m 0 c).before 0 t d = iblk m c 0 t :=
  ((data m 0 c).before_in_eq_fetched 0 rfl (fun _ => rfl) (fun _ _ _ => rfl) (fun s => by rw [after0]; rfl) t d).trans rfl
/-- It finds the gains. -/
theorem found1 (c : Dev nD) (t : Fin cfg0.N) (d) : (data m 0 c).before 1 t d = iblk m c 1 t :=
  ((data m 0 c).before_in_eq_fetched 1 rfl (fun _ => rfl) (fun _ _ _ => rfl) (fun s => by rw [after1]; rfl) t d).trans rfl
/-- It finds its tile of the weights. -/
theorem found2 (c : Dev nD) (t : Fin cfg0.N) (d) : (data m 0 c).before 2 t d = iblk m c 2 t :=
  ((data m 0 c).before_in_eq_fetched 2 rfl (fun _ => rfl) (fun _ _ _ => rfl) (fun s => by rw [after2]; rfl) t d).trans rfl

/-- After a row block's first point, the body finds the row block's normed rows. -/
theorem found4 (c : Dev nD) (t : Fin cfg0.N) (h : ¬t.val % 3 = 0) (d) : (data m 0 c).before 4 t d = normed m c t := by
  rw [(data m 0 c).before_out_traj 4 rfl (fun _ _ => rfl) (fun s hs _ hf => by
    rw [fresh4, decide_eq_false_iff_not] at hf
    rw [after4, after4]
    exact normed_prev m c _ _ (by show (s.val - 1) / 3 = s.val / 3; omega)) t.val t rfl d, fresh4, decide_eq_false h,
    if_neg Bool.false_ne_true, after4]
  exact (normed_prev m c _ _ (by show (t.val - 1) / 3 = t.val / 3; omega)).symm

/-- A window that a point stores into is left with what the data says. -/
theorem leaves_live (c : Dev nD) (w : Fin cfg0.W) (t : Fin cfg0.N) (h : cfg0.idle w (cfg0.grid.coords t) = false) :
    (data m 0 c).leavesExact w t = owns (c : Thread nD τ) ((cfg0.win w).stage (cfg0.slots t w)) fullShare ((data m 0 c).after w t) := by
  unfold Dat.leavesExact; rw [h]

/-- The normed rows, found and left alone, are what a later point of a row block is to leave. -/
theorem leaves_kept (c : Dev nD) (t : Fin cfg0.N) (h : ¬t.val % 3 = 0) :
    owns (c : Thread nD τ) (win0_4.stage (cfg0.slots t 4)) fullShare (normed m c t) ⊢ (data m 0 c).leavesExact 4 t := by
  have hi : cfg0.idle 4 (cfg0.grid.coords t) = true := (idle4 t).trans (decide_eq_true h)
  by_cases h2 : t.val % 3 = 2
  · have e : (data m 0 c).leavesExact 4 t = owns (c : Thread nD τ) (win0_4.stage (cfg0.slots t 4)) fullShare (normed m c t) := by
      unfold Dat.leavesExact; rw [hi, flush4, decide_eq_true h2, after4]
    rw [e]
  · rw [Dat.leavesExact_idle (data m 0 c) 4 t hi ((flush4 t).trans (decide_eq_false h2))]
    iintro H
    iexists (normed m c t)
    rw [found4 m c t h]
    iexact H

/-- The body as the call runs it at a point. -/
abbrev body (t : Fin cfg0.N) : Prog (TpuEff nD τ sig (Elt F) Λ₀ .tc) PUnit :=
  cc0_in_proj_a (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))

set_option maxHeartbeats 1000000 in
/-- At every point the body takes the windows' buffers from what they hold before it to what they hold after it. -/
theorem step (c : Dev nD) (t : Fin cfg0.N) :
    iprop((data m 0 c).Φ t.castSucc ∗ (data m 0 c).owesAt () t.castSucc
      ∗ (∃ d, owns (c : Thread nD τ) (win0_0.stage (cfg0.slots t 0)) fullShare ((data m 0 c).before 0 t d))
      ∗ (∃ d, owns (c : Thread nD τ) (win0_1.stage (cfg0.slots t 1)) fullShare ((data m 0 c).before 1 t d))
      ∗ (∃ d, owns (c : Thread nD τ) (win0_2.stage (cfg0.slots t 2)) fullShare ((data m 0 c).before 2 t d))
      ∗ (∃ d, owns (c : Thread nD τ) (win0_3.stage (cfg0.slots t 3)) fullShare ((data m 0 c).before 3 t d))
      ∗ (∃ d, owns (c : Thread nD τ) (win0_4.stage (cfg0.slots t 4)) fullShare ((data m 0 c).before 4 t d)))
    ⊢ wp frame (wpE (defs₀ (F := F)) Variants.none c none) Set.univ (body t) (fun _ =>
      iprop((data m 0 c).Φ t.succ ∗ (data m 0 c).owesAt () t.succ ∗ (data m 0 c).leavesExact 0 t ∗ (data m 0 c).leavesExact 1 t
        ∗ (data m 0 c).leavesExact 2 t ∗ (data m 0 c).leavesExact 3 t ∗ (data m 0 c).leavesExact 4 t)) := by
  rw [show (data m 0 c).Φ t.succ = (data m 0 c).Φ t.castSucc from rfl,
    show (data m 0 c).owesAt () t.succ = (data m 0 c).owesAt () t.castSucc from rfl,
    leaves_live m c 0 t rfl, leaves_live m c 1 t rfl, leaves_live m c 2 t rfl, leaves_live m c 3 t (live3 t),
    after0, after1, after2, after3]
  simp only [found0, found1, found2]
  unfold body
  by_cases h : t.val % 3 = 0
  · rw [leaves_live m c 4 t ((idle4 t).trans (decide_eq_false (not_not.mpr h))), after4, normed_opening m c t h,
      show product m c t = (opened m c t h).1.1 from dif_pos h]
    iintro ⟨HΦ, Ho, ⟨%d0, H0⟩, ⟨%d1, H1⟩, ⟨%d2, H2⟩, ⟨%d3, H3⟩, ⟨%d4, H4⟩⟩
    iapply ((opened m c t h).2 Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [found4 m c t h]
    rw [show product m c t = k0_pay3 (normed m c t) (iblk m c 2 t) from dif_neg h]
    iintro ⟨HΦ, Ho, ⟨%d0, H0⟩, ⟨%d1, H1⟩, ⟨%d2, H2⟩, ⟨%d3, H3⟩, ⟨%d4, H4⟩⟩
    iapply (multiplying c (grid0.coords t) _ _ _ _ _ _ _ _ _ _ (fun q => h ((norms_iff t).mp q)) ((reuses_iff t).mpr h) (iblk m c 2 t) (normed m c t) Set.univ _)
    isplitl [H2]; · iexact H2
    isplitl [H3]; · iexists _; iexact H3
    isplitl [H4]; · iexact H4
    iintro ⟨H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_kept m c t h)
    iexact H4

/-- What the call's pipeline asks of its body. -/
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = body t from by unfold defs₀; rw [Defs.onTc_tc]]
  exact triple_restated (step m c t) rfl .rfl fun _ => .rfl

set_option backward.isDefEq.respectTransparency.types false in
/-- The program runs to its end from any memory, its arrays as the data says and every counter at zero. -/
theorem ran : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := entered m Variants.none) (hA := data_A m) (hΦ := fun _ _ => rfl)

/-- The product's and the normed rows' arrays at the end, and the arguments as they were. -/
theorem ends : θ_run defs (onTc (τ := τ) (main (F := F))) ⟨m, fun _ => 0, ρ⟩ (fun r => ∀ c : Dev nD,
      r.2.mem ((c : Thread nD τ).loc main_v0_0) = (data m 0 c).arrAt 3 cfg0.N
      ∧ r.2.mem ((c : Thread nD τ).loc main_v0_1) = (data m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h.1 c).1 3, (h.1 c).1 4,
    ((h.1 c).1 0).trans ((data m 0 c).arrAt_in 0 rfl _), ((h.1 c).1 1).trans ((data m 0 c).arrAt_in 1 rfl _),
    ((h.1 c).1 2).trans ((data m 0 c).arrAt_in 2 rfl _)⟩) (ran m ρ)

/-- The program ends from any memory with its arguments as they were and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and ((θ_run defs _ _).mono (fun _ h c => (h c).2.2) (ends m ρ)) ((θ_run defs _ _).mono (fun _ h => h.2) (ran m ρ))

end Cert.InProjAIdeal.Hand

end
-- ==== Proof.InProjA.lean ====
/- The first half of the input projection: what each block of its two results holds, and the arrays they make. -/
module

public import proofs.«01_k».proof.Proof.InProjAIdealFrame
public import proofs.«01_k».proof.Proof.Gen.InProjARefIdeal.Read
public import proofs.«01_k».proof.Proof.Gen.InProjARefIdeal.Run
public import Idealize.ShloMosaic.Lib.Pipeline.ValueKit
public import Idealize.ShloMosaic.Lib.Pipeline.ReadBack

@[expose] public section

set_option maxRecDepth 16384

noncomputable section

namespace Cert.InProjAIdeal.Result

open Cert.InProjAIdeal Cert.InProjAIdeal.Gen Cert.InProjAIdeal.Hand Idealize.ShloMosaic Idealize.ShloMosaic.TcCoe Idealize.SL.Sem

variable (m : (ℓ : Loc nD τ sig) → Buf (Elt Ideal) ℓ)

open Cert.InProjARefIdeal.Read in
/-- The reference's first result: the product of the normed rows with the weights. -/
def G0 (c : Dev nD) : S32768x6144.Idx → EReal :=
  val_main_v16 (F := Ideal) (m ((c : Thread nD τ).loc main_arg0)) (m ((c : Thread nD τ).loc main_arg1)) (m ((c : Thread nD τ).loc main_arg2))

open Cert.InProjARefIdeal.Read in
/-- The reference's second result: the normed rows. -/
def G1 (c : Dev nD) : S32768x2048.Idx → EReal :=
  val_main_v17 (F := Ideal) (m ((c : Thread nD τ).loc main_arg0)) (m ((c : Thread nD τ).loc main_arg1))

/-- Window 0's block at a point. -/
theorem idx0 : ∀ t : Fin cfg0.N, win0_0.index t = ![t.val / 3, 0] := (by decide +kernel : ∀ t : Fin grid0.N, _)
/-- Window 1's block at a point. -/
theorem idx1 : ∀ t : Fin cfg0.N, win0_1.index t = ![0, 0] := (by decide +kernel : ∀ t : Fin grid0.N, _)
/-- Window 2's block at a point. -/
theorem idx2 : ∀ t : Fin cfg0.N, win0_2.index t = ![0, t.val % 3] := (by decide +kernel : ∀ t : Fin grid0.N, _)
/-- Window 3's block at a point. -/
theorem idx3 : ∀ t : Fin cfg0.N, win0_3.index t = ![t.val / 3, t.val % 3] := (by decide +kernel : ∀ t : Fin grid0.N, _)
/-- Window 4's block at a point. -/
theorem idx4 : ∀ t : Fin cfg0.N, win0_4.index t = ![t.val / 3, 0] := (by decide +kernel : ∀ t : Fin grid0.N, _)

/-- Row `y 0` of row block `r` in the whole array. -/
abbrev at2 (r : ℕ) (hr : r < 32) (y : S1024x2048.Idx) : S32768x2048.Idx :=
  Idealize.ShloMosaic.ix2 ⟨r * 1024 + y 0, by have : (y 0).val < 1024 := (y 0).isLt; omega⟩ (y 1)

/-- Row `y 0` of row block `r`, column `y 1` of column tile `s`, in the whole array. -/
abbrev at3 (r : ℕ) (hr : r < 32) (s : ℕ) (hs : s < 3) (y : S1024x2048.Idx) : S32768x6144.Idx :=
  Idealize.ShloMosaic.ix2 ⟨r * 1024 + y 0, by have : (y 0).val < 1024 := (y 0).isLt; omega⟩
    ⟨s * 2048 + y 1, by have : (y 1).val < 2048 := (y 1).isLt; omega⟩

open Cert.InProjARefIdeal.Read in
/-- The rows that a point that norms leaves are the reference's. -/
theorem rows_eq (c : Dev nD) (t : Fin cfg0.N) (h : t.val % 3 = 0) (y : S1024x2048.Idx) :
    (opened m c t h).1.2 y = G1 m c (at2 (t.val / 3) (by have := lt96 t; omega) y) := by
  have hb := lt96 t
  unfold at2 opened
  frame_out
  canon_tiles x h
  all_goals unfold_payloads
  all_goals pointwise [G1, val_main_v17, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  all_goals blk_point [iblk, V, idx0 t, idx1 t]

/-- The normed rows of any point's row block are the reference's. -/
theorem normed_eq (c : Dev nD) (t : Fin cfg0.N) (y : S1024x2048.Idx) :
    normed m c t y = G1 m c (at2 (t.val / 3) (by have := lt96 t; omega) y) := by
  have e : (opening t).val / 3 = t.val / 3 := by show 3 * (t.val / 3) / 3 = t.val / 3; omega
  refine (rows_eq m c (opening t) (opening_mod t) y).trans ?_
  simp only [at2, e]

open Cert.InProjARefIdeal.Read in
/-- The product's tile at a point that norms is the reference's. -/
theorem first_eq (c : Dev nD) (t : Fin cfg0.N) (h : t.val % 3 = 0) (y : S1024x2048.Idx) :
    (opened m c t h).1.1 y = G0 m c (at3 (t.val / 3) (by have := lt96 t; omega) (t.val % 3) (by omega) y) := by
  have hb := lt96 t
  unfold at3 opened
  frame_out
  canon_tiles x h
  all_goals simp only [View.readCov_cons_toLoadRect]
  all_goals unfold_payloads
  all_goals pointwise [G0, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  all_goals blk_point [iblk, V, idx0 t, idx1 t, idx2 t]

open Cert.InProjARefIdeal.Read in
/-- The product's tile at a point that only multiplies is the reference's. -/
theorem later_eq (c : Dev nD) (t : Fin cfg0.N) (y : S1024x2048.Idx) :
    k0_pay3 (normed m c t) (iblk m c 2 t) y = G0 m c (at3 (t.val / 3) (by have := lt96 t; omega) (t.val % 3) (by omega) y) := by
  have hb := lt96 t
  have hn : ∀ (a : Fin 1024) (b : Fin 2048), normed m c t (Idealize.ShloMosaic.ix2 a b) = val_main_v13 (F := Ideal) (m ((c : Thread nD τ).loc main_arg0))
      (m ((c : Thread nD τ).loc main_arg1)) (Idealize.ShloMosaic.ix2 ⟨t.val / 3 * 1024 + a, by omega⟩ b) := fun a b => normed_eq m c t _
  unfold at3
  obtain ⟨p, q, rfl⟩ : ∃ (p : Fin 1024) (q : Fin 2048), y = Idealize.ShloMosaic.ix2 p q := ⟨y 0, y 1, eq_ix2 y⟩
  simp only [ix2_0, ix2_1]
  unfold_payloads
  pointwise [G0, val_main_v16, val_main_v15, val_main_v14]
  simp only [hn]
  blk_point [iblk, V, idx2 t]

/-- The product's array after the run is the reference's. -/
theorem final3 (c : Dev nD) : (data m 0 c).arrAt 3 cfg0.N = G0 m c := by
  refine (data m 0 c).arrAt_eq_of_covers 3 _ (by decide +kernel) fun t hf y => ?_
  have hb := lt96 t
  blk_simp
  have e : (data m 0 c).after 3 t y = G0 m c (at3 (t.val / 3) (by omega) (t.val % 3) (by omega) y) := by
    rw [after3]
    by_cases h : t.val % 3 = 0
    · exact (congrFun (dif_pos h) y).trans (first_eq m c t h y)
    · exact (congrFun (dif_neg h) y).trans (later_eq m c t y)
  rw [e]
  unfold at3
  blk_point [idx3 t]

/-- The normed rows' array after the run is the reference's. -/
theorem final4 (c : Dev nD) : (data m 0 c).arrAt 4 cfg0.N = G1 m c := by
  refine (data m 0 c).arrAt_eq_of_covers 4 _ (by decide +kernel) fun t hf y => ?_
  have hb := lt96 t
  blk_simp
  rw [after4, normed_eq m c t]
  unfold at2
  blk_point [idx4 t]

end Cert.InProjAIdeal.Result
-- ==== Proof.lean ====
/- Every call's claims, put together from the modules that prove them. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Mix
public import proofs.«01_k».proof.Proof.RefAttn
public import proofs.«01_k».proof.Proof.Pre
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Ffn
public import proofs.«01_k».proof.Proof.Gen.InProjB
public import proofs.«01_k».proof.Proof.Gen.InProjB.Frame
public import proofs.«01_k».proof.Proof.Gen.InProjBIdeal
public import proofs.«01_k».proof.Proof.Gen.InProjBIdeal.Frame
public import proofs.«01_k».proof.Proof.Gen.InProjBRefIdeal
public import proofs.«01_k».proof.Proof.Gen.InProjBRefIdeal.Run
public import proofs.«01_k».proof.Proof.Gen.InProjBRefIdeal.Read
public import proofs.«01_k».proof.Proof.InProjB
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Merge
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleRefIdeal
public import proofs.«01_k».proof.Proof.Gen.PleRefIdeal.Run
public import proofs.«01_k».proof.Proof.Gen.PleRefIdeal.Read
public import proofs.«01_k».proof.Proof.Ple
public import proofs.«01_k».proof.Proof.Gen.InProjA
public import proofs.«01_k».proof.Proof.Gen.InProjAIdeal
public import proofs.«01_k».proof.Proof.Gen.InProjAIdeal.Launch
public import proofs.«01_k».proof.Proof.Gen.InProjAIdeal.Skeleton
public import proofs.«01_k».proof.Proof.Gen.InProjARefIdeal
public import proofs.«01_k».proof.Proof.Gen.InProjARefIdeal.Run
public import proofs.«01_k».proof.Proof.Gen.InProjARefIdeal.Read
public import proofs.«01_k».proof.Proof.InProjAIdealFrame
public import proofs.«01_k».proof.Proof.InProjA
public import Idealize.ShloMosaic.Adequacy
public import Idealize.ShloMosaic.Init

@[expose] public section

set_option maxRecDepth 16384

noncomputable section

namespace Cert.Proof

open Idealize.ShloMosaic Idealize.SL.Sem

/-- Each constant that the kernel holds rounded is the number it is named after. -/
theorem preserves_mix : Cert.preserves_Kernel_KernelIdeal :=
  ⟨IdealRules.named_const.statement Cert.KernelIdeal.κ "alibi0" .f32 0xBF3504F3#32 _ rfl,
    IdealRules.named_const.statement Cert.KernelIdeal.κ "alibi2" .f32 0xBEB504F3#32 _ rfl,
    IdealRules.named_const.statement Cert.KernelIdeal.κ "alibi4" .f32 0xBE3504F3#32 _ rfl,
    IdealRules.named_const.statement Cert.KernelIdeal.κ "alibi6" .f32 0xBDB504F3#32 _ rfl,
    IdealRules.named_const.statement Cert.KernelIdeal.κ "alibi8" .f32 0xBD3504F3#32 _ rfl,
    IdealRules.named_const.statement Cert.KernelIdeal.κ "alibi10" .f32 0xBCB504F3#32 _ rfl,
    IdealRules.named_const.statement Cert.KernelIdeal.κ "alibi12" .f32 0xBC3504F3#32 _ rfl,
    IdealRules.named_const.statement Cert.KernelIdeal.κ "alibi14" .f32 0xBBB504F3#32 _ rfl,
    IdealRules.named_const.statement Cert.KernelIdeal.κ "log_gamma0" .f32 0xBD020AEC#32 _ rfl,
    IdealRules.named_const.statement Cert.KernelIdeal.κ "log_gamma1" .f32 0xBC8102B3#32 _ rfl,
    IdealRules.named_const.statement Cert.KernelIdeal.κ "log_gamma2" .f32 0xBC0080AC#32 _ rfl,
    IdealRules.named_const.statement Cert.KernelIdeal.κ "log_gamma3" .f32 0xBB80402B#32 _ rfl,
    IdealRules.named_const.statement Cert.KernelIdeal.κ "log_gamma4" .f32 0xBB00200B#32 _ rfl,
    IdealRules.named_const.statement Cert.KernelIdeal.κ "log_gamma5" .f32 0xBA801003#32 _ rfl,
    IdealRules.named_const.statement Cert.KernelIdeal.κ "log_gamma6" .f32 0xBA000801#32 _ rfl,
    IdealRules.named_const.statement Cert.KernelIdeal.κ "log_gamma7" .f32 0xB9800400#32 _ rfl,
    IdealRules.named_const.statement Cert.KernelIdeal.κ "gamma0_pow32" .f32 0x3EB95F50#32 _ rfl,
    IdealRules.named_const.statement Cert.KernelIdeal.κ "gamma1_pow32" .f32 0x3F1AA8FF#32 _ rfl,
    IdealRules.named_const.statement Cert.KernelIdeal.κ "gamma2_pow32" .f32 0x3F472D69#32 _ rfl,
    IdealRules.named_const.statement Cert.KernelIdeal.κ "gamma3_pow32" .f32 0x3F61DD29#32 _ rfl,
    IdealRules.named_const.statement Cert.KernelIdeal.κ "gamma4_pow32" .f32 0x3F70799D#32 _ rfl,
    IdealRules.named_const.statement Cert.KernelIdeal.κ "gamma5_pow32" .f32 0x3F781EB3#32 _ rfl,
    IdealRules.named_const.statement Cert.KernelIdeal.κ "gamma6_pow32" .f32 0x3F7C07B6#32 _ rfl,
    IdealRules.named_const.statement Cert.KernelIdeal.κ "gamma7_pow32" .f32 0x3F7E01EF#32 _ rfl⟩

/-- What the precondition says of the first call's arrays: its queries, keys and sinks are real numbers. -/
theorem reals_of_pre {m : (ℓ : Loc Cert.KernelIdeal.nD Cert.KernelIdeal.τ Cert.KernelIdeal.sig) → Buf (Elt Ideal) ℓ}
    (h : Cert.Pre_KernelIdeal_attention_scores_real (hPre_attention_scores_real := Cert.Pre_attention_scores_real.facts) m) (c : Dev Cert.KernelIdeal.nD) :
    Cert.Spec.Reals (Cert.KernelIdeal.Result.A1 m c) (Cert.KernelIdeal.Result.A2 m c) (Cert.KernelIdeal.Result.A3 m c) :=
  Cert.Pre_attention_scores_real.reals _ _ _ _ _ _ (h c).1 (h c).2.1 (h c).2.2.1 (h c).2.2.2

/-- Over the reals the sample step's attention and retention compute what the reference computes, where the queries, the keys and the sinks are real numbers. -/
theorem algebraic_mix : Cert.algebraic_KernelIdeal_ReferenceIdeal_pre_attention_scores_real (hKernelIdeal := Cert.KernelIdeal.Gen.facts)
    (hReferenceIdeal := Cert.ReferenceIdeal.Gen.facts) (hPre_attention_scores_real := Cert.Pre_attention_scores_real.facts) :=
  fun m g m' g' hp hag => ⟨fun c => Cert.Spec.attention (Cert.KernelIdeal.Result.A1 m c) (Cert.KernelIdeal.Result.A2 m c) (Cert.KernelIdeal.Result.A3 m c) (Cert.KernelIdeal.Result.A4 m c),
    fun c => Cert.Spec.retention (Cert.KernelIdeal.Result.A0 m c) (Cert.KernelIdeal.Result.A1 m c) (Cert.KernelIdeal.Result.A5 m c),
    fun c => Cert.Spec.newState (Cert.KernelIdeal.Result.A0 m c) (Cert.KernelIdeal.Result.A1 m c) (Cert.KernelIdeal.Result.A5 m c),
    (θ_run _ _ _).mono (fun r h c => by
      obtain ⟨h0, h1, h2⟩ := h.1 c
      exact ⟨h0, h1, h2, h.2 c⟩) (θ_run_and (Cert.KernelIdeal.Result.run_result m g (reals_of_pre hp)) (Cert.KernelIdeal.Gen.unchanged m g)),
    (θ_run _ _ _).mono (fun r h c => by
      obtain ⟨h0, h1, h2, ha⟩ := h c
      obtain ⟨a0, a1, a2, a3, a4, a5⟩ := hag c
      have e0 := (Cert.ReferenceIdeal.Value.val4_main_v159 (StableHlo.launchContents m' c)).symm.trans (Cert.ReferenceIdeal.Result.attention_eq (StableHlo.launchContents m' c))
      have e1 := (Cert.ReferenceIdeal.Value.val4_main_v160 (StableHlo.launchContents m' c)).symm.trans (Cert.ReferenceIdeal.Result.retention_eq (StableHlo.launchContents m' c))
      have e2 := (Cert.ReferenceIdeal.Value.val4_main_v140 (StableHlo.launchContents m' c)).symm.trans (Cert.ReferenceIdeal.Result.state_eq (StableHlo.launchContents m' c))
      have b0 : Cert.ReferenceIdeal.Result.B0 (StableHlo.launchContents m' c) = Cert.KernelIdeal.Result.A0 m c := a0
      have b1 : Cert.ReferenceIdeal.Result.B1 (StableHlo.launchContents m' c) = Cert.KernelIdeal.Result.A1 m c := a1
      have b2 : Cert.ReferenceIdeal.Result.B2 (StableHlo.launchContents m' c) = Cert.KernelIdeal.Result.A2 m c := a2
      have b3 : Cert.ReferenceIdeal.Result.B3 (StableHlo.launchContents m' c) = Cert.KernelIdeal.Result.A3 m c := a3
      have b4 : Cert.ReferenceIdeal.Result.B4 (StableHlo.launchContents m' c) = Cert.KernelIdeal.Result.A4 m c := a4
      have b5 : Cert.ReferenceIdeal.Result.B5 (StableHlo.launchContents m' c) = Cert.KernelIdeal.Result.A5 m c := a5
      rw [b1, b2, b3, b4] at e0
      rw [b0, b1, b5] at e1 e2
      exact ⟨h0.trans e0, h1.trans e1, h2.trans e2, ha⟩) (Cert.ReferenceIdeal.Value.run m' g')⟩

/-- Over the reals the feed-forward call computes what the reference computes. -/
theorem algebraic_Ffn : Cert.algebraic_FfnIdeal_FfnRefIdeal (hFfnIdeal := Cert.FfnIdeal.Gen.facts) (hFfnRefIdeal := Cert.FfnRefIdeal.Gen.facts) :=
  fun m g m' g' _ hag => ⟨fun c => Cert.FfnIdeal.Result.G m c,
    (θ_run _ _ _).mono (fun r h c => by
      obtain ⟨h0, ha⟩ := h c
      exact ⟨h0.trans (Cert.FfnIdeal.Result.final m c), ha⟩) (Cert.FfnIdeal.Value.run_blocks m g),
    (θ_run _ _ _).mono (fun r h c => by
      obtain ⟨h0, ha⟩ := h c
      obtain ⟨a0, a1, a2, a3, a4⟩ := hag c
      have e0 : Cert.FfnRefIdeal.Read.val_main_v36 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) = Cert.FfnIdeal.Result.G m c := by
        rw [a0, a1, a2, a3, a4]
        rfl
      exact ⟨(h0.trans (Cert.FfnRefIdeal.Read.val_main_v36_eq m' c)).trans e0, ha⟩) (Cert.FfnRefIdeal.Value.run m' g')⟩

/-- Over the reals the second half of the input projection, and the keys and values that the host lines cut out of it for the cache, are what the reference computes. -/
theorem algebraic_InProjB : Cert.algebraic_InProjBIdeal_InProjBRefIdeal (hInProjBIdeal := Cert.InProjBIdeal.Gen.facts) (hInProjBRefIdeal := Cert.InProjBRefIdeal.Gen.facts) :=
  fun m g m' g' _ hag => ⟨fun c => Cert.InProjBIdeal.Result.G0 m c, fun c => Cert.InProjBIdeal.Result.G1 m c, fun c => Cert.InProjBIdeal.Result.G2 m c,
    (θ_run _ _ _).mono (fun r h c => by
      obtain ⟨h0, h1, h2, ha⟩ := h c
      have ek := Cert.InProjBIdeal.Result.final3 m c
      exact ⟨h0.trans (Cert.InProjBIdeal.Result.final2 m c),
        h1.trans ((Cert.InProjBIdeal.Result.tail1 m c _ ek).trans (Cert.InProjBIdeal.Result.keys_eq m c)),
        h2.trans ((Cert.InProjBIdeal.Result.tail2 m c _ ek).trans (Cert.InProjBIdeal.Result.values_eq m c)), ha⟩) (Cert.InProjBIdeal.Result.run_tail m g),
    (θ_run _ _ _).mono (fun r h c => by
      obtain ⟨h0, h1, h2, ha⟩ := h c
      obtain ⟨a0, a1⟩ := hag c
      have e0 : Cert.InProjBRefIdeal.Read.val_main_v9 (F := Ideal) (m' ((c.tc : Thread Cert.InProjBRefIdeal.nD Cert.InProjBRefIdeal.τ).loc Cert.InProjBRefIdeal.main_arg0)) (m' ((c.tc : Thread Cert.InProjBRefIdeal.nD Cert.InProjBRefIdeal.τ).loc Cert.InProjBRefIdeal.main_arg1)) = Cert.InProjBIdeal.Result.G0 m c := by
        rw [a0, a1]
        rfl
      have e1 : Cert.InProjBRefIdeal.Read.val_main_v10 (F := Ideal) (m' ((c.tc : Thread Cert.InProjBRefIdeal.nD Cert.InProjBRefIdeal.τ).loc Cert.InProjBRefIdeal.main_arg0)) (m' ((c.tc : Thread Cert.InProjBRefIdeal.nD Cert.InProjBRefIdeal.τ).loc Cert.InProjBRefIdeal.main_arg1)) = Cert.InProjBIdeal.Result.G1 m c := by
        rw [a0, a1]
        rfl
      have e2 : Cert.InProjBRefIdeal.Read.val_main_v11 (F := Ideal) (m' ((c.tc : Thread Cert.InProjBRefIdeal.nD Cert.InProjBRefIdeal.τ).loc Cert.InProjBRefIdeal.main_arg0)) (m' ((c.tc : Thread Cert.InProjBRefIdeal.nD Cert.InProjBRefIdeal.τ).loc Cert.InProjBRefIdeal.main_arg1)) = Cert.InProjBIdeal.Result.G2 m c := by
        rw [a0, a1]
        rfl
      exact ⟨(h0.trans (Cert.InProjBRefIdeal.Read.val_main_v9_eq _ _)).trans e0, (h1.trans (Cert.InProjBRefIdeal.Read.val_main_v10_eq _ _)).trans e1,
        (h2.trans (Cert.InProjBRefIdeal.Read.val_main_v11_eq _ _)).trans e2, ha⟩) (Cert.InProjBRefIdeal.Value.run m' g')⟩

/-- Over the reals the merge call computes what the reference computes. -/
theorem algebraic_Merge : Cert.algebraic_MergeIdeal_MergeRefIdeal (hMergeIdeal := Cert.MergeIdeal.Gen.facts) (hMergeRefIdeal := Cert.MergeRefIdeal.Gen.facts) :=
  fun m g m' g' _ hag => ⟨fun c => Cert.MergeIdeal.Result.G m c,
    (θ_run _ _ _).mono (fun r h c => by
      obtain ⟨h0, ha⟩ := h c
      exact ⟨h0.trans (Cert.MergeIdeal.Result.final m c), ha⟩) (Cert.MergeIdeal.Value.run_blocks m g),
    (θ_run _ _ _).mono (fun r h c => by
      obtain ⟨h0, ha⟩ := h c
      obtain ⟨a0, a1, a2, a3, a4, a5, a6, a7, a8⟩ := hag c
      have e0 : Cert.MergeRefIdeal.Read.val_main_v44 (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) = Cert.MergeIdeal.Result.G m c := by
        rw [a0, a1, a2, a3, a4, a5, a6, a7, a8]
        rfl
      exact ⟨(h0.trans (Cert.MergeRefIdeal.Read.val_main_v44_eq m' c)).trans e0, ha⟩) (Cert.MergeRefIdeal.Value.run m' g')⟩

/-- Over the reals the first half of the input projection computes what the reference computes. -/
theorem algebraic_InProjA : Cert.algebraic_InProjAIdeal_InProjARefIdeal (hInProjAIdeal := Cert.InProjAIdeal.Gen.facts) (hInProjARefIdeal := Cert.InProjARefIdeal.Gen.facts) :=
  fun m g m' g' _ hag => ⟨fun c => Cert.InProjAIdeal.Result.G0 m c, fun c => Cert.InProjAIdeal.Result.G1 m c,
    (θ_run _ _ _).mono (fun r h c => by
      obtain ⟨h0, h1, ha⟩ := h c
      exact ⟨h0.trans (Cert.InProjAIdeal.Result.final3 m c), h1.trans (Cert.InProjAIdeal.Result.final4 m c), ha⟩) (Cert.InProjAIdeal.Hand.ends m g),
    (θ_run _ _ _).mono (fun r h c => by
      obtain ⟨h0, h1, ha⟩ := h c
      obtain ⟨a0, a1, a2⟩ := hag c
      have e0 : Cert.InProjARefIdeal.Read.val_main_v16 (F := Ideal) (m' ((c.tc : Thread Cert.InProjARefIdeal.nD Cert.InProjARefIdeal.τ).loc Cert.InProjARefIdeal.main_arg0)) (m' ((c.tc : Thread Cert.InProjARefIdeal.nD Cert.InProjARefIdeal.τ).loc Cert.InProjARefIdeal.main_arg1)) (m' ((c.tc : Thread Cert.InProjARefIdeal.nD Cert.InProjARefIdeal.τ).loc Cert.InProjARefIdeal.main_arg2)) = Cert.InProjAIdeal.Result.G0 m c := by
        rw [a0, a1, a2]
        rfl
      have e1 : Cert.InProjARefIdeal.Read.val_main_v17 (F := Ideal) (m' ((c.tc : Thread Cert.InProjARefIdeal.nD Cert.InProjARefIdeal.τ).loc Cert.InProjARefIdeal.main_arg0)) (m' ((c.tc : Thread Cert.InProjARefIdeal.nD Cert.InProjARefIdeal.τ).loc Cert.InProjARefIdeal.main_arg1)) = Cert.InProjAIdeal.Result.G1 m c := by
        rw [a0, a1]
        rfl
      exact ⟨(h0.trans (Cert.InProjARefIdeal.Read.val_main_v16_eq _ _ _)).trans e0, (h1.trans (Cert.InProjARefIdeal.Read.val_main_v17_eq _ _)).trans e1, ha⟩) (Cert.InProjARefIdeal.Value.run m' g')⟩

/-- Over the reals the per-layer embedding call computes what the reference computes. -/
theorem algebraic_Ple : Cert.algebraic_PleIdeal_PleRefIdeal (hPleIdeal := Cert.PleIdeal.Gen.facts) (hPleRefIdeal := Cert.PleRefIdeal.Gen.facts) :=
  fun m g m' g' _ hag => ⟨fun c => Cert.PleIdeal.Result.G m c,
    (θ_run _ _ _).mono (fun r h c => by
      obtain ⟨h0, ha⟩ := h c
      exact ⟨h0.trans (Cert.PleIdeal.Result.final m c), ha⟩) (Cert.PleIdeal.Value.run_blocks m g),
    (θ_run _ _ _).mono (fun r h c => by
      obtain ⟨h0, ha⟩ := h c
      obtain ⟨a0, a1, a2, a3, a4⟩ := hag c
      have e0 : Cert.PleRefIdeal.Read.val_main_v25 (F := Ideal) (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) = Cert.PleIdeal.Result.G m c := by
        rw [a0, a1, a2, a3, a4]
        rfl
      exact ⟨(h0.trans (Cert.PleRefIdeal.Read.val_main_v25_eq _ _ _ _ _)).trans e0, ha⟩) (Cert.PleRefIdeal.Value.run m' g')⟩

/-- The reference of the sample step's attention and retention runs to its end, leaves its arguments alone, and has no semaphores. -/
theorem frame_Reference : Cert.quiescent_ReferenceIdeal (hReferenceIdeal := Cert.ReferenceIdeal.Gen.facts) :=
  fun m g _ => (θ_run _ _ _).mono (fun r h => ⟨fun c => (h c).2.2.2, sem_eq_zero_of_no_sems (by decide) r.2⟩)
    (Cert.ReferenceIdeal.Value.run m g)

/-- The reference of the feed-forward call runs to its end, leaves its arguments alone, and has no semaphores. -/
theorem frame_FfnRef : Cert.quiescent_FfnRefIdeal (hFfnRefIdeal := Cert.FfnRefIdeal.Gen.facts) :=
  fun m g _ => (θ_run _ _ _).mono (fun r h => ⟨fun c => (h c).2, sem_eq_zero_of_no_sems (by decide) r.2⟩)
    (Cert.FfnRefIdeal.Value.run m g)

/-- The reference of the second half of the input projection runs to its end, leaves its arguments alone, and has no semaphores. -/
theorem frame_InProjBRef : Cert.quiescent_InProjBRefIdeal (hInProjBRefIdeal := Cert.InProjBRefIdeal.Gen.facts) :=
  fun m g _ => (θ_run _ _ _).mono (fun r h => ⟨fun c => (h c).2.2.2, sem_eq_zero_of_no_sems (by decide) r.2⟩)
    (Cert.InProjBRefIdeal.Value.run m g)

/-- The reference of the merge call runs to its end, leaves its arguments alone, and has no semaphores. -/
theorem frame_MergeRef : Cert.quiescent_MergeRefIdeal (hMergeRefIdeal := Cert.MergeRefIdeal.Gen.facts) :=
  fun m g _ => (θ_run _ _ _).mono (fun r h => ⟨fun c => (h c).2, sem_eq_zero_of_no_sems (by decide) r.2⟩)
    (Cert.MergeRefIdeal.Value.run m g)

/-- The first half of the input projection is printed as a kernel and as an idealized kernel, and on bits the two have the same body. -/
theorem same_body_InProjA : @Cert.InProjA.defs₀ Bits _ Cert.InProjA.Gen.facts = @Cert.InProjAIdeal.defs₀ Bits _ Cert.InProjAIdeal.Gen.facts := by
  unfold Cert.InProjA.defs₀ Cert.InProjAIdeal.defs₀
  congr 1
  funext l a
  match l, a with
  | 0, (t, s) => rfl
  | ⟨_ + 1, h⟩, _ => exact absurd h (Nat.not_lt.2 (Nat.le_add_left _ _))

/-- On bits the first half of the input projection runs to its end, leaves its arguments alone and its semaphores at zero:
    the idealized kernel does so over any floats, and it is the same program. -/
theorem frame_InProjA : Cert.quiescent_InProjA (hInProjA := Cert.InProjA.Gen.facts) := fun m g _ => by
  have h := Cert.InProjAIdeal.Hand.framed (F := Bits) m g
  unfold Cert.InProjAIdeal.defs at h
  unfold Cert.InProjA.defs
  rw [← same_body_InProjA] at h
  exact h

/-- The reference of the first half of the input projection runs to its end, leaves its arguments alone, and has no semaphores. -/
theorem frame_InProjARef : Cert.quiescent_InProjARefIdeal (hInProjARefIdeal := Cert.InProjARefIdeal.Gen.facts) :=
  fun m g _ => (θ_run _ _ _).mono (fun r h => ⟨fun c => (h c).2.2, sem_eq_zero_of_no_sems (by decide) r.2⟩)
    (Cert.InProjARefIdeal.Value.run m g)

/-- The reference of the per-layer embedding call runs to its end, leaves its arguments alone, and has no semaphores. -/
theorem frame_PleRef : Cert.quiescent_PleRefIdeal (hPleRefIdeal := Cert.PleRefIdeal.Gen.facts) :=
  fun m g _ => (θ_run _ _ _).mono (fun r h => ⟨fun c => (h c).2, sem_eq_zero_of_no_sems (by decide) r.2⟩)
    (Cert.PleRefIdeal.Value.run m g)

/-- Every claim of the certificate. -/
theorem claim : Cert.Claim :=
  ⟨Cert.Kernel.Gen.facts,
    Cert.KernelIdeal.Gen.facts,
    Cert.ReferenceIdeal.Gen.facts,
    Cert.Ffn.Gen.facts,
    Cert.FfnIdeal.Gen.facts,
    Cert.FfnRefIdeal.Gen.facts,
    Cert.InProjB.Gen.facts,
    Cert.InProjBIdeal.Gen.facts,
    Cert.InProjBRefIdeal.Gen.facts,
    Cert.Merge.Gen.facts,
    Cert.MergeIdeal.Gen.facts,
    Cert.MergeRefIdeal.Gen.facts,
    Cert.InProjA.Gen.facts,
    Cert.InProjAIdeal.Gen.facts,
    Cert.InProjARefIdeal.Gen.facts,
    Cert.Ple.Gen.facts,
    Cert.PleIdeal.Gen.facts,
    Cert.PleRefIdeal.Gen.facts,
    Cert.Pre_attention_scores_real.facts,
    fun m g _ => Cert.Kernel.Gen.frame m g,
    fun m g _ => Cert.KernelIdeal.Gen.frame m g,
    fun m g _ => Cert.KernelIdeal.Gen.frame m g,
    frame_Reference,
    fun m g _ => frame_Reference m g trivial,
    fun m g _ => Cert.Ffn.Gen.frame m g,
    fun m g _ => Cert.FfnIdeal.Gen.frame m g,
    frame_FfnRef,
    fun m g _ => Cert.InProjB.Gen.frame m g,
    fun m g _ => Cert.InProjBIdeal.Gen.frame m g,
    frame_InProjBRef,
    fun m g _ => Cert.Merge.Gen.frame m g,
    fun m g _ => Cert.MergeIdeal.Gen.frame m g,
    frame_MergeRef,
    frame_InProjA,
    fun m g _ => Cert.InProjAIdeal.Hand.framed m g,
    frame_InProjARef,
    fun m g _ => Cert.Ple.Gen.frame m g,
    fun m g _ => Cert.PleIdeal.Gen.frame m g,
    frame_PleRef,
    preserves_mix,
    algebraic_mix,
    trivial,
    algebraic_Ffn,
    trivial,
    algebraic_InProjB,
    trivial,
    algebraic_Merge,
    trivial,
    algebraic_InProjA,
    trivial,
    algebraic_Ple⟩

end Cert.Proof

end

end
